-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_spread [hPre_spread : Cert.Pre_spread.Facts] (m : (ℓ : Loc Cert.KernelIdeal.nD Cert.KernelIdeal.τ Cert.KernelIdeal.sig) → Buf (Elt Ideal) ℓ) : Prop :=
  ∀ c : Dev Cert.KernelIdeal.nD,
    (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_spread [hPre_spread : Cert.Pre_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_spread [hKernelIdeal : Cert.KernelIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_spread [hReferenceIdeal : Cert.ReferenceIdeal.Facts] [hPre_spread : Cert.Pre_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_spread [hKernelIdeal : Cert.KernelIdeal.Facts] [hReferenceIdeal : Cert.ReferenceIdeal.Facts] [hPre_spread : Cert.Pre_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_spread : Cert.Pre_spread.Facts),
    quiescent_Kernel (hKernel := hKernel)
    ∧ quiescent_KernelIdeal (hKernelIdeal := hKernelIdeal)
    ∧ quiescent_KernelIdeal_pre_spread (hKernelIdeal := hKernelIdeal) (hPre_spread := hPre_spread)
    ∧ quiescent_ReferenceIdeal (hReferenceIdeal := hReferenceIdeal)
    ∧ quiescent_ReferenceIdeal_pre_spread (hReferenceIdeal := hReferenceIdeal) (hPre_spread := hPre_spread)
    ∧ preserves_Kernel_KernelIdeal
    ∧ algebraic_KernelIdeal_ReferenceIdeal_pre_spread (hKernelIdeal := hKernelIdeal) (hReferenceIdeal := hReferenceIdeal) (hPre_spread := hPre_spread)
-- ==== Pre_spread.lean ====
abbrev S100000x128 : Shape := ⟨2, ![100000, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S100000 : Shape := ⟨1, ![100000]⟩
abbrev S1x100000 : Shape := ⟨2, ![1, 100000]⟩
abbrev S4096x100000 : Shape := ⟨2, ![4096, 100000]⟩
abbrev S128x100000 : Shape := ⟨2, ![128, 100000]⟩
abbrev S4096x64 : Shape := ⟨2, ![4096, 64]⟩
abbrev S4096x64x1 : Shape := ⟨3, ![4096, 64, 1]⟩
abbrev S4096x1x64 : Shape := ⟨3, ![4096, 1, 64]⟩
abbrev S4096x64x64 : Shape := ⟨3, ![4096, 64, 64]⟩
abbrev S4096x100096 : Shape := ⟨2, ![4096, 100096]⟩
abbrev S4096x391x256 : Shape := ⟨3, ![4096, 391, 256]⟩
abbrev S4096x256 : Shape := ⟨2, ![4096, 256]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  reducesTo_S100000x128_S100000_d1 : S100000x128.ReducesTo [1] S100000
  bcast_S100000_S1x100000_1 : S100000.BroadcastsInDim S1x100000 (![1] : Fin 1 → Fin S1x100000.rank)
  bcast_S4096x1_S4096x100000_0_1 : S4096x1.BroadcastsInDim S4096x100000 (![0, 1] : Fin 2 → Fin S4096x100000.rank)
  bcast_S1x100000_S4096x100000_0_1 : S1x100000.BroadcastsInDim S4096x100000 (![0, 1] : Fin 2 → Fin S4096x100000.rank)
  transposes_S100000x128_S128x100000_1_0 : S100000x128.Transposes [1, 0] S128x100000
  bcast_S_S4096x100000 : S_.BroadcastsInDim S4096x100000 (![] : Fin 0 → Fin S4096x100000.rank)
  sliceFits_S4096x100000_S4096x64 : S4096x100000.Slices (fun _ => 0) S4096x64
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64_S4096x1x64_0_2 : S4096x64.BroadcastsInDim S4096x1x64 (![0, 2] : Fin 2 → Fin S4096x1x64.rank)
  bcast_S4096x64x1_S4096x64x64_0_1_2 : S4096x64x1.BroadcastsInDim S4096x64x64 (![0, 1, 2] : Fin 3 → Fin S4096x64x64.rank)
  bcast_S4096x1x64_S4096x64x64_0_1_2 : S4096x1x64.BroadcastsInDim S4096x64x64 (![0, 1, 2] : Fin 3 → Fin S4096x64x64.rank)
  slices_S4096x64_S4096x1_0_63 : S4096x64.Slices ![0, 63] S4096x1
  natLt_1_32 : 1 < 32
  pads_S4096x100000_S4096x100096_000_0960 : S4096x100000.Pads (![0, 0] : Fin 2 → Nat) ![0, 96] ![0, 0] S4096x100096
  shapeCasts_S4096x100096_S4096x391x256 : S4096x100096.ShapeCasts S4096x391x256
  bcast_S_S100000x128 : S_.BroadcastsInDim S100000x128 (![] : Fin 0 → Fin S100000x128.rank)
  reducesTo_S4096x64x64_S4096x64_d2 : S4096x64x64.ReducesTo [2] S4096x64
  reducesTo_S4096x391x256_S4096x256_d1 : S4096x391x256.ReducesTo [1] S4096x256
  bcast_S_S4096x256 : S_.BroadcastsInDim S4096x256 (![] : Fin 0 → Fin S4096x256.rank)
  dot_S4096x128_S128x100000_S4096x100000_1_0_0_1_n_n_wf : DotDims.WF S4096x128 S128x100000 S4096x100000 [1] [0] [0] [1] [] []

variable [Facts]

def dot_S4096x128_S128x100000_S4096x100000_1_0_0_1_n_n : DotDims S4096x128 S128x100000 S4096x100000 where
  lhsContracting := [1]
  rhsContracting := [0]
  lhsNonContracting := [0]
  rhsNonContracting := [1]
  lhsBatch := []
  rhsBatch := []
  wf := dot_S4096x128_S128x100000_S4096x100000_1_0_0_1_n_n_wf
def fn_part3 {F : FTy → Type} [FloatOps F] (main_v26 : IVec S4096x64x64 1) (main_v42 : IVec S4096x64x64 1) (main_v49 : IVec S4096x391x256 32) (main_v52 : IVec S100000x128 1) (main_v56 : IVec S4096x64 1) (main_v58 : IVec S4096x64 32) : IVec S100000x128 1 × IVec S4096x64 1 × IVec S4096x64 1 × IVec S4096x64x64 1 × IVec S4096x256 1 :=
  let main_c_9 : IVec S_ 32 := constantI S_ 32 8#32
  let main_v59 : IVec S4096x64 32 := broadcastInDim S4096x64 ![] bcast_S_S4096x64 main_c_9
  let main_v60 : IVec S4096x64 1 := cmpi .sle main_v58 main_v59
  let main_v61 : IVec S4096x64x64 1 := andi main_v26 main_v42
  let main_v62 : IVec S4096x64x64 1 := noti main_v61
  let main_c_10 : IVec S_ 32 := constantI S_ 32 0#32
  let main_v63 : IVec S4096x256 32 := (fun x v => Host.reduce IntOp.addi x v reducesTo_S4096x391x256_S4096x256_d1 h_S_) main_v49 main_c_10
  let main_c_11 : IVec S_ 32 := constantI S_ 32 1#32
  let main_v64 : IVec S4096x256 32 := broadcastInDim S4096x256 ![] bcast_S_S4096x256 main_c_11
  let main_v65 : IVec S4096x256 1 := cmpi .sle main_v63 main_v64
  (main_v52, main_v56, main_v60, main_v62, main_v65)

def fn_part2 {F : FTy → Type} [FloatOps F] (main_arg0 : FVec F S100000x128 .f32) (main_v16 : FVec F S4096x100000 .f32) (main_values : FVec F S4096x64 .f32) (main_v26 : IVec S4096x64x64 1) (main_v31 : IVec S4096x64x64 1) (main_v36 : IVec S4096x64x64 1) (main_v38 : IVec S4096x1x64 32) (main_v39 : IVec S4096x64x64 32) : IVec S100000x128 1 × IVec S4096x64 1 × IVec S4096x64 1 × IVec S4096x64x64 1 × IVec S4096x256 1 :=
  let main_v40 : IVec S4096x64x64 32 := broadcastInDim S4096x64x64 ![0, 1, 2] bcast_S4096x1x64_S4096x64x64_0_1_2 main_v38
  let main_v41 : IVec S4096x64x64 1 := cmpi .ne main_v39 main_v40
  let main_v42 : IVec S4096x64x64 1 := andi main_v36 main_v41
  let main_v43 : FVec F S4096x100000 .f32 := Host.negf main_v16
  let main_v44 : FVec F S4096x1 .f32 := (extractStridedSlice S4096x1 ![0, 63] · slices_S4096x64_S4096x1_0_63) main_values
  let main_v45 : FVec F S4096x100000 .f32 := broadcastInDim S4096x100000 ![0, 1] bcast_S4096x1_S4096x100000_0_1 main_v44
  let main_v46 : IVec S4096x100000 1 := cmpf .oeq main_v43 main_v45
  let main_v47 : IVec S4096x100000 32 := (extui 32 · natLt_1_32) main_v46
  let main_c_4 : IVec S_ 32 := constantI S_ 32 0#32
  let main_v48 : IVec S4096x100096 32 := (fun x v => pad S4096x100096 ![0, 0] ![0, 96] ![0, 0] x v pads_S4096x100000_S4096x100096_000_0960 h_S_) main_v47 main_c_4
  let main_v49 : IVec S4096x391x256 32 := shapeCast S4096x391x256 main_v48 shapeCasts_S4096x100096_S4096x391x256
  let main_v50 : FVec F S100000x128 .f32 := Host.absf main_arg0
  let main_cst_5 : FVec F S_ .f32 := constant S_ .f32 0x7F800000#32
  let main_v51 : FVec F S100000x128 .f32 := broadcastInDim S100000x128 ![] bcast_S_S100000x128 main_cst_5
  let main_v52 : IVec S100000x128 1 := cmpf .olt main_v50 main_v51
  let main_v53 : IVec S4096x64x64 32 := (extui 32 · natLt_1_32) main_v26
  let main_c_6 : IVec S_ 32 := constantI S_ 32 0#32
  let main_v54 : IVec S4096x64 32 := (fun x v => Host.reduce IntOp.addi x v reducesTo_S4096x64x64_S4096x64_d2 h_S_) main_v53 main_c_6
  let main_c_7 : IVec S_ 32 := constantI S_ 32 5#32
  let main_v55 : IVec S4096x64 32 := broadcastInDim S4096x64 ![] bcast_S_S4096x64 main_c_7
  let main_v56 : IVec S4096x64 1 := cmpi .sle main_v54 main_v55
  let main_v57 : IVec S4096x64x64 32 := (extui 32 · natLt_1_32) main_v31
  let main_c_8 : IVec S_ 32 := constantI S_ 32 0#32
  let main_v58 : IVec S4096x64 32 := (fun x v => Host.reduce IntOp.addi x v reducesTo_S4096x64x64_S4096x64_d2 h_S_) main_v57 main_c_8
  fn_part3 (F := F) main_v26 main_v42 main_v49 main_v52 main_v56 main_v58

def fn_part1 {F : FTy → Type} [FloatOps F] (main_arg0 : FVec F S100000x128 .f32) (main_v16 : FVec F S4096x100000 .f32) (main_values : FVec F S4096x64 .f32) (main_indices : IVec S4096x64 32) : IVec S100000x128 1 × IVec S4096x64 1 × IVec S4096x64 1 × IVec S4096x64x64 1 × IVec S4096x256 1 :=
  let main_c : IVec S_ 32 := constantI S_ 32 255#32
  let main_v18 : IVec S4096x64 32 := broadcastInDim S4096x64 ![] bcast_S_S4096x64 main_c
  let main_v19 : IVec S4096x64 32 := andi main_indices main_v18
  let main_c_3 : IVec S_ 32 := constantI S_ 32 127#32
  let main_v20 : IVec S4096x64 32 := broadcastInDim S4096x64 ![] bcast_S_S4096x64 main_c_3
  let main_v21 : IVec S4096x64 32 := andi main_indices main_v20
  let main_v22 : IVec S4096x64x1 32 := broadcastInDim S4096x64x1 ![0, 1] bcast_S4096x64_S4096x64x1_0_1 main_v19
  let main_v23 : IVec S4096x1x64 32 := broadcastInDim S4096x1x64 ![0, 2] bcast_S4096x64_S4096x1x64_0_2 main_v19
  let main_v24 : IVec S4096x64x64 32 := broadcastInDim S4096x64x64 ![0, 1, 2] bcast_S4096x64x1_S4096x64x64_0_1_2 main_v22
  let main_v25 : IVec S4096x64x64 32 := broadcastInDim S4096x64x64 ![0, 1, 2] bcast_S4096x1x64_S4096x64x64_0_1_2 main_v23
  let main_v26 : IVec S4096x64x64 1 := cmpi .eq main_v24 main_v25
  let main_v27 : IVec S4096x64x1 32 := broadcastInDim S4096x64x1 ![0, 1] bcast_S4096x64_S4096x64x1_0_1 main_v21
  let main_v28 : IVec S4096x1x64 32 := broadcastInDim S4096x1x64 ![0, 2] bcast_S4096x64_S4096x1x64_0_2 main_v21
  let main_v29 : IVec S4096x64x64 32 := broadcastInDim S4096x64x64 ![0, 1, 2] bcast_S4096x64x1_S4096x64x64_0_1_2 main_v27
  let main_v30 : IVec S4096x64x64 32 := broadcastInDim S4096x64x64 ![0, 1, 2] bcast_S4096x1x64_S4096x64x64_0_1_2 main_v28
  let main_v31 : IVec S4096x64x64 1 := cmpi .eq main_v29 main_v30
  let main_v32 : FVec F S4096x64x1 .f32 := broadcastInDim S4096x64x1 ![0, 1] bcast_S4096x64_S4096x64x1_0_1 main_values
  let main_v33 : FVec F S4096x1x64 .f32 := broadcastInDim S4096x1x64 ![0, 2] bcast_S4096x64_S4096x1x64_0_2 main_values
  let main_v34 : FVec F S4096x64x64 .f32 := broadcastInDim S4096x64x64 ![0, 1, 2] bcast_S4096x64x1_S4096x64x64_0_1_2 main_v32
  let main_v35 : FVec F S4096x64x64 .f32 := broadcastInDim S4096x64x64 ![0, 1, 2] bcast_S4096x1x64_S4096x64x64_0_1_2 main_v33
  let main_v36 : IVec S4096x64x64 1 := cmpf .oeq main_v34 main_v35
  let main_v37 : IVec S4096x64x1 32 := broadcastInDim S4096x64x1 ![0, 1] bcast_S4096x64_S4096x64x1_0_1 main_indices
  let main_v38 : IVec S4096x1x64 32 := broadcastInDim S4096x1x64 ![0, 2] bcast_S4096x64_S4096x1x64_0_2 main_indices
  let main_v39 : IVec S4096x64x64 32 := broadcastInDim S4096x64x64 ![0, 1, 2] bcast_S4096x64x1_S4096x64x64_0_1_2 main_v37
  fn_part2 (F := F) main_arg0 main_v16 main_values main_v26 main_v31 main_v36 main_v38 main_v39

def fn {F : FTy → Type} [FloatOps F] (main_arg0 : FVec F S100000x128 .f32) (main_arg1 : FVec F S4096x128 .f32) : IVec S100000x128 1 × IVec S4096x64 1 × IVec S4096x64 1 × IVec S4096x64x64 1 × IVec S4096x256 1 :=
  let main_v0 : FVec F S4096x128 .f32 := mulf main_arg1 main_arg1
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x1 .f32 := broadcastInDim S4096x1 ![0] bcast_S4096_S4096x1_0 main_v1
  let main_v3 : FVec F S100000x128 .f32 := mulf main_arg0 main_arg0
  let main_cst_0 : FVec F S_ .f32 := constant S_ .f32 0x00000000#32
  let main_v4 : FVec F S100000 .f32 := (fun x v => Host.reduceAdd x v reducesTo_S100000x128_S100000_d1 h_S_) main_v3 main_cst_0
  let main_v5 : FVec F S1x100000 .f32 := broadcastInDim S1x100000 ![1] bcast_S100000_S1x100000_1 main_v4
  let main_v6 : FVec F S4096x100000 .f32 := broadcastInDim S4096x100000 ![0, 1] bcast_S4096x1_S4096x100000_0_1 main_v2
  let main_v7 : FVec F S4096x100000 .f32 := broadcastInDim S4096x100000 ![0, 1] bcast_S1x100000_S4096x100000_0_1 main_v5
  let main_v8 : FVec F S4096x100000 .f32 := addf main_v6 main_v7
  let main_v9 : FVec F S128x100000 .f32 := (transpose S128x100000 [1, 0] · transposes_S100000x128_S128x100000_1_0) main_arg0
  let main_v10 : FVec F S4096x100000 .f32 := (fun l r => Host.dotGeneral dot_S4096x128_S128x100000_S4096x100000_1_0_0_1_n_n none l r) main_arg1 main_v9
  let main_cst_1 : FVec F S_ .f32 := constant S_ .f32 0x40000000#32
  let main_v11 : FVec F S4096x100000 .f32 := broadcastInDim S4096x100000 ![] bcast_S_S4096x100000 main_cst_1
  let main_v12 : FVec F S4096x100000 .f32 := mulf main_v11 main_v10
  let main_v13 : FVec F S4096x100000 .f32 := subf main_v8 main_v12
  let main_cst_2 : FVec F S_ .f32 := constant S_ .f32 0x00000000#32
  let main_v14 : FVec F S4096x100000 .f32 := broadcastInDim S4096x100000 ![] bcast_S_S4096x100000 main_cst_2
  let main_v15 : FVec F S4096x100000 .f32 := maximumf main_v13 main_v14
  let main_v16 : FVec F S4096x100000 .f32 := Host.sqrt main_v15
  let main_v17 : FVec F S4096x100000 .f32 := Host.negf main_v16
  let main_values : FVec F S4096x64 .f32 := (fun x => (Host.topK S4096x64 1 (FloatOps.cmpfTotal .gt) x sliceFits_S4096x100000_S4096x64).1) main_v17
  let main_indices : IVec S4096x64 32 := (fun x => (Host.topK S4096x64 1 (FloatOps.cmpfTotal .gt) x sliceFits_S4096x100000_S4096x64).2) main_v17
  fn_part1 (F := F) main_arg0 main_v16 main_values main_indices
-- ==== Kernel.lean ====
abbrev S100000x128 : Shape := ⟨2, ![100000, 128]⟩
abbrev S4096x128 : Shape := ⟨2, ![4096, 128]⟩
abbrev S_ : Shape := ⟨0, ![]⟩
abbrev S100352x128 : Shape := ⟨2, ![100352, 128]⟩
abbrev S4096x100352 : Shape := ⟨2, ![4096, 100352]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S4096x1024 : Shape := ⟨2, ![4096, 1024]⟩
abbrev S8x100352 : Shape := ⟨2, ![8, 100352]⟩
abbrev S8x1024 : Shape := ⟨2, ![8, 1024]⟩
abbrev S8x128 : Shape := ⟨2, ![8, 128]⟩
abbrev S64x4096 : Shape := ⟨2, ![64, 4096]⟩
abbrev S1024x1024 : Shape := ⟨2, ![1024, 1024]⟩
abbrev S64x1024 : Shape := ⟨2, ![64, 1024]⟩
abbrev S1024x128 : Shape := ⟨2, ![1024, 128]⟩
abbrev S1024 : Shape := ⟨1, ![1024]⟩
abbrev S1024x1 : Shape := ⟨2, ![1024, 1]⟩
abbrev S1x1024 : Shape := ⟨2, ![1, 1024]⟩
abbrev S4096x64 : Shape := ⟨2, ![4096, 64]⟩

abbrev nBuf : Space → Nat
  | .hbm => 12
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S4096x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S4096x100352, .f32⟩
  | .hbm, ⟨6, _⟩ => ⟨S4096x1024, .f32⟩
  | .hbm, ⟨7, _⟩ => ⟨S4096x1024, .i32⟩
  | .hbm, ⟨8, _⟩ => ⟨S64x4096, .f32⟩
  | .hbm, ⟨9, _⟩ => ⟨S64x4096, .i32⟩
  | .hbm, ⟨10, _⟩ => ⟨S4096x64, .f32⟩
  | .hbm, ⟨11, _⟩ => ⟨S4096x64, .i32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x2048, .f32⟩
  | .local _ .vmem, ⟨5, _⟩ => ⟨S512x2048, .f32⟩
  | .local _ .vmem, ⟨6, _⟩ => ⟨S8x100352, .f32⟩
  | .local _ .vmem, ⟨7, _⟩ => ⟨S8x100352, .f32⟩
  | .local _ .vmem, ⟨8, _⟩ => ⟨S8x1024, .f32⟩
  | .local _ .vmem, ⟨9, _⟩ => ⟨S8x1024, .f32⟩
  | .local _ .vmem, ⟨10, _⟩ => ⟨S8x1024, .i32⟩
  | .local _ .vmem, ⟨11, _⟩ => ⟨S8x1024, .i32⟩
  | .local _ .vmem, ⟨12, _⟩ => ⟨S1024x1024, .f32⟩
  | .local _ .vmem, ⟨13, _⟩ => ⟨S1024x1024, .f32⟩
  | .local _ .vmem, ⟨14, _⟩ => ⟨S1024x1024, .i32⟩
  | .local _ .vmem, ⟨15, _⟩ => ⟨S1024x1024, .i32⟩
  | .local _ .vmem, ⟨16, _⟩ => ⟨S64x1024, .f32⟩
  | .local _ .vmem, ⟨17, _⟩ => ⟨S64x1024, .f32⟩
  | .local _ .vmem, ⟨18, _⟩ => ⟨S64x1024, .i32⟩
  | .local _ .vmem, ⟨19, _⟩ => ⟨S64x1024, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![512], ![false]⟩

@[reducible] def k1_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k1_mult1 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c0_i32_26 : BitVec 32 := 0#32
  let v145 : BitVec 32 := Scalar.addi v144 c0_i32_26
  let c128_i32 : BitVec 32 := 128#32
  let v146 : BitVec 32 := Scalar.muli v145 c128_i32
  v146
def k1_off1 (k1_t1 : Fin k1_t1_loop.trips) (c0_i32_26 : BitVec 32) : Fin 2 → Nat :=
  let c0_27 : Index := 0#32
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let v145 : BitVec 32 := Scalar.addi v144 c0_i32_26
  let c128_i32 : BitVec 32 := 128#32
  let v146 : BitVec 32 := Scalar.muli v145 c128_i32
  let v147 : BitVec 32 := v146
  let v148 : Index := Scalar.indexCast v147
  ![0, v148.toNat]
def k1_mult2 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c1_i32_30 : BitVec 32 := 1#32
  let v178 : BitVec 32 := Scalar.addi v144 c1_i32_30
  let c128_i32_31 : BitVec 32 := 128#32
  let v179 : BitVec 32 := Scalar.muli v178 c128_i32_31
  v179
def k1_mult3 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c2_i32_35 : BitVec 32 := 2#32
  let v211 : BitVec 32 := Scalar.addi v144 c2_i32_35
  let c128_i32_36 : BitVec 32 := 128#32
  let v212 : BitVec 32 := Scalar.muli v211 c128_i32_36
  v212
def k1_mult4 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c3_i32 : BitVec 32 := 3#32
  let v244 : BitVec 32 := Scalar.addi v144 c3_i32
  let c128_i32_40 : BitVec 32 := 128#32
  let v245 : BitVec 32 := Scalar.muli v244 c128_i32_40
  v245
def k1_mult5 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c4_i32 : BitVec 32 := 4#32
  let v277 : BitVec 32 := Scalar.addi v144 c4_i32
  let c128_i32_44 : BitVec 32 := 128#32
  let v278 : BitVec 32 := Scalar.muli v277 c128_i32_44
  v278
def k1_mult6 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c5_i32 : BitVec 32 := 5#32
  let v310 : BitVec 32 := Scalar.addi v144 c5_i32
  let c128_i32_48 : BitVec 32 := 128#32
  let v311 : BitVec 32 := Scalar.muli v310 c128_i32_48
  v311
def k1_mult7 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c6_i32 : BitVec 32 := 6#32
  let v343 : BitVec 32 := Scalar.addi v144 c6_i32
  let c128_i32_52 : BitVec 32 := 128#32
  let v344 : BitVec 32 := Scalar.muli v343 c128_i32_52
  v344
def k1_mult8 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c7_i32 : BitVec 32 := 7#32
  let v376 : BitVec 32 := Scalar.addi v144 c7_i32
  let c128_i32_56 : BitVec 32 := 128#32
  let v377 : BitVec 32 := Scalar.muli v376 c128_i32_56
  v377
def k1_mult9 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c8_i32_60 : BitVec 32 := 8#32
  let v409 : BitVec 32 := Scalar.addi v144 c8_i32_60
  let c128_i32_61 : BitVec 32 := 128#32
  let v410 : BitVec 32 := Scalar.muli v409 c128_i32_61
  v410
def k1_mult10 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c9_i32 : BitVec 32 := 9#32
  let v442 : BitVec 32 := Scalar.addi v144 c9_i32
  let c128_i32_65 : BitVec 32 := 128#32
  let v443 : BitVec 32 := Scalar.muli v442 c128_i32_65
  v443
def k1_mult11 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c10_i32 : BitVec 32 := 10#32
  let v475 : BitVec 32 := Scalar.addi v144 c10_i32
  let c128_i32_69 : BitVec 32 := 128#32
  let v476 : BitVec 32 := Scalar.muli v475 c128_i32_69
  v476
def k1_mult12 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c11_i32 : BitVec 32 := 11#32
  let v508 : BitVec 32 := Scalar.addi v144 c11_i32
  let c128_i32_73 : BitVec 32 := 128#32
  let v509 : BitVec 32 := Scalar.muli v508 c128_i32_73
  v509
def k1_mult13 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c12_i32 : BitVec 32 := 12#32
  let v541 : BitVec 32 := Scalar.addi v144 c12_i32
  let c128_i32_77 : BitVec 32 := 128#32
  let v542 : BitVec 32 := Scalar.muli v541 c128_i32_77
  v542
def k1_mult14 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c13_i32 : BitVec 32 := 13#32
  let v574 : BitVec 32 := Scalar.addi v144 c13_i32
  let c128_i32_81 : BitVec 32 := 128#32
  let v575 : BitVec 32 := Scalar.muli v574 c128_i32_81
  v575
def k1_mult15 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c14_i32 : BitVec 32 := 14#32
  let v607 : BitVec 32 := Scalar.addi v144 c14_i32
  let c128_i32_85 : BitVec 32 := 128#32
  let v608 : BitVec 32 := Scalar.muli v607 c128_i32_85
  v608
def k1_mult16 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c15_i32 : BitVec 32 := 15#32
  let v640 : BitVec 32 := Scalar.addi v144 c15_i32
  let c128_i32_89 : BitVec 32 := 128#32
  let v641 : BitVec 32 := Scalar.muli v640 c128_i32_89
  v641
def k1_mult17 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c16_i32 : BitVec 32 := 16#32
  let v673 : BitVec 32 := Scalar.addi v144 c16_i32
  let c128_i32_93 : BitVec 32 := 128#32
  let v674 : BitVec 32 := Scalar.muli v673 c128_i32_93
  v674
def k1_mult18 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c17_i32 : BitVec 32 := 17#32
  let v706 : BitVec 32 := Scalar.addi v144 c17_i32
  let c128_i32_97 : BitVec 32 := 128#32
  let v707 : BitVec 32 := Scalar.muli v706 c128_i32_97
  v707
def k1_mult19 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c18_i32 : BitVec 32 := 18#32
  let v739 : BitVec 32 := Scalar.addi v144 c18_i32
  let c128_i32_101 : BitVec 32 := 128#32
  let v740 : BitVec 32 := Scalar.muli v739 c128_i32_101
  v740
def k1_mult20 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c19_i32 : BitVec 32 := 19#32
  let v772 : BitVec 32 := Scalar.addi v144 c19_i32
  let c128_i32_105 : BitVec 32 := 128#32
  let v773 : BitVec 32 := Scalar.muli v772 c128_i32_105
  v773
def k1_mult21 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c20_i32 : BitVec 32 := 20#32
  let v805 : BitVec 32 := Scalar.addi v144 c20_i32
  let c128_i32_109 : BitVec 32 := 128#32
  let v806 : BitVec 32 := Scalar.muli v805 c128_i32_109
  v806
def k1_mult22 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c21_i32 : BitVec 32 := 21#32
  let v838 : BitVec 32 := Scalar.addi v144 c21_i32
  let c128_i32_113 : BitVec 32 := 128#32
  let v839 : BitVec 32 := Scalar.muli v838 c128_i32_113
  v839
def k1_mult23 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c22_i32 : BitVec 32 := 22#32
  let v871 : BitVec 32 := Scalar.addi v144 c22_i32
  let c128_i32_117 : BitVec 32 := 128#32
  let v872 : BitVec 32 := Scalar.muli v871 c128_i32_117
  v872
def k1_mult24 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c23_i32 : BitVec 32 := 23#32
  let v904 : BitVec 32 := Scalar.addi v144 c23_i32
  let c128_i32_121 : BitVec 32 := 128#32
  let v905 : BitVec 32 := Scalar.muli v904 c128_i32_121
  v905
def k1_mult25 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c24_i32 : BitVec 32 := 24#32
  let v937 : BitVec 32 := Scalar.addi v144 c24_i32
  let c128_i32_125 : BitVec 32 := 128#32
  let v938 : BitVec 32 := Scalar.muli v937 c128_i32_125
  v938
def k1_mult26 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c25_i32 : BitVec 32 := 25#32
  let v970 : BitVec 32 := Scalar.addi v144 c25_i32
  let c128_i32_129 : BitVec 32 := 128#32
  let v971 : BitVec 32 := Scalar.muli v970 c128_i32_129
  v971
def k1_mult27 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c26_i32 : BitVec 32 := 26#32
  let v1003 : BitVec 32 := Scalar.addi v144 c26_i32
  let c128_i32_133 : BitVec 32 := 128#32
  let v1004 : BitVec 32 := Scalar.muli v1003 c128_i32_133
  v1004
def k1_mult28 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c27_i32 : BitVec 32 := 27#32
  let v1036 : BitVec 32 := Scalar.addi v144 c27_i32
  let c128_i32_137 : BitVec 32 := 128#32
  let v1037 : BitVec 32 := Scalar.muli v1036 c128_i32_137
  v1037
def k1_mult29 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c28_i32 : BitVec 32 := 28#32
  let v1069 : BitVec 32 := Scalar.addi v144 c28_i32
  let c128_i32_141 : BitVec 32 := 128#32
  let v1070 : BitVec 32 := Scalar.muli v1069 c128_i32_141
  v1070
def k1_mult30 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c29_i32 : BitVec 32 := 29#32
  let v1102 : BitVec 32 := Scalar.addi v144 c29_i32
  let c128_i32_145 : BitVec 32 := 128#32
  let v1103 : BitVec 32 := Scalar.muli v1102 c128_i32_145
  v1103
def k1_mult31 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c30_i32 : BitVec 32 := 30#32
  let v1135 : BitVec 32 := Scalar.addi v144 c30_i32
  let c128_i32_149 : BitVec 32 := 128#32
  let v1136 : BitVec 32 := Scalar.muli v1135 c128_i32_149
  v1136
def k1_mult32 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c31_i32 : BitVec 32 := 31#32
  let v1168 : BitVec 32 := Scalar.addi v144 c31_i32
  let c128_i32_153 : BitVec 32 := 128#32
  let v1169 : BitVec 32 := Scalar.muli v1168 c128_i32_153
  v1169
def k1_mult33 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c32_i32 : BitVec 32 := 32#32
  let v1201 : BitVec 32 := Scalar.addi v144 c32_i32
  let c128_i32_157 : BitVec 32 := 128#32
  let v1202 : BitVec 32 := Scalar.muli v1201 c128_i32_157
  v1202
def k1_mult34 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c33_i32 : BitVec 32 := 33#32
  let v1234 : BitVec 32 := Scalar.addi v144 c33_i32
  let c128_i32_161 : BitVec 32 := 128#32
  let v1235 : BitVec 32 := Scalar.muli v1234 c128_i32_161
  v1235
def k1_mult35 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c34_i32 : BitVec 32 := 34#32
  let v1267 : BitVec 32 := Scalar.addi v144 c34_i32
  let c128_i32_165 : BitVec 32 := 128#32
  let v1268 : BitVec 32 := Scalar.muli v1267 c128_i32_165
  v1268
def k1_mult36 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c35_i32 : BitVec 32 := 35#32
  let v1300 : BitVec 32 := Scalar.addi v144 c35_i32
  let c128_i32_169 : BitVec 32 := 128#32
  let v1301 : BitVec 32 := Scalar.muli v1300 c128_i32_169
  v1301
def k1_mult37 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c36_i32 : BitVec 32 := 36#32
  let v1333 : BitVec 32 := Scalar.addi v144 c36_i32
  let c128_i32_173 : BitVec 32 := 128#32
  let v1334 : BitVec 32 := Scalar.muli v1333 c128_i32_173
  v1334
def k1_mult38 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c37_i32 : BitVec 32 := 37#32
  let v1366 : BitVec 32 := Scalar.addi v144 c37_i32
  let c128_i32_177 : BitVec 32 := 128#32
  let v1367 : BitVec 32 := Scalar.muli v1366 c128_i32_177
  v1367
def k1_mult39 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c38_i32 : BitVec 32 := 38#32
  let v1399 : BitVec 32 := Scalar.addi v144 c38_i32
  let c128_i32_181 : BitVec 32 := 128#32
  let v1400 : BitVec 32 := Scalar.muli v1399 c128_i32_181
  v1400
def k1_mult40 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c39_i32 : BitVec 32 := 39#32
  let v1432 : BitVec 32 := Scalar.addi v144 c39_i32
  let c128_i32_185 : BitVec 32 := 128#32
  let v1433 : BitVec 32 := Scalar.muli v1432 c128_i32_185
  v1433
def k1_mult41 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c40_i32 : BitVec 32 := 40#32
  let v1465 : BitVec 32 := Scalar.addi v144 c40_i32
  let c128_i32_189 : BitVec 32 := 128#32
  let v1466 : BitVec 32 := Scalar.muli v1465 c128_i32_189
  v1466
def k1_mult42 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c41_i32 : BitVec 32 := 41#32
  let v1498 : BitVec 32 := Scalar.addi v144 c41_i32
  let c128_i32_193 : BitVec 32 := 128#32
  let v1499 : BitVec 32 := Scalar.muli v1498 c128_i32_193
  v1499
def k1_mult43 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c42_i32 : BitVec 32 := 42#32
  let v1531 : BitVec 32 := Scalar.addi v144 c42_i32
  let c128_i32_197 : BitVec 32 := 128#32
  let v1532 : BitVec 32 := Scalar.muli v1531 c128_i32_197
  v1532
def k1_mult44 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c43_i32 : BitVec 32 := 43#32
  let v1564 : BitVec 32 := Scalar.addi v144 c43_i32
  let c128_i32_201 : BitVec 32 := 128#32
  let v1565 : BitVec 32 := Scalar.muli v1564 c128_i32_201
  v1565
def k1_mult45 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c44_i32 : BitVec 32 := 44#32
  let v1597 : BitVec 32 := Scalar.addi v144 c44_i32
  let c128_i32_205 : BitVec 32 := 128#32
  let v1598 : BitVec 32 := Scalar.muli v1597 c128_i32_205
  v1598
def k1_mult46 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c45_i32 : BitVec 32 := 45#32
  let v1630 : BitVec 32 := Scalar.addi v144 c45_i32
  let c128_i32_209 : BitVec 32 := 128#32
  let v1631 : BitVec 32 := Scalar.muli v1630 c128_i32_209
  v1631
def k1_mult47 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c46_i32 : BitVec 32 := 46#32
  let v1663 : BitVec 32 := Scalar.addi v144 c46_i32
  let c128_i32_213 : BitVec 32 := 128#32
  let v1664 : BitVec 32 := Scalar.muli v1663 c128_i32_213
  v1664
def k1_mult48 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c47_i32 : BitVec 32 := 47#32
  let v1696 : BitVec 32 := Scalar.addi v144 c47_i32
  let c128_i32_217 : BitVec 32 := 128#32
  let v1697 : BitVec 32 := Scalar.muli v1696 c128_i32_217
  v1697
def k1_mult49 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c48_i32 : BitVec 32 := 48#32
  let v1729 : BitVec 32 := Scalar.addi v144 c48_i32
  let c128_i32_221 : BitVec 32 := 128#32
  let v1730 : BitVec 32 := Scalar.muli v1729 c128_i32_221
  v1730
def k1_mult50 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c49_i32_225 : BitVec 32 := 49#32
  let v1762 : BitVec 32 := Scalar.addi v144 c49_i32_225
  let c128_i32_226 : BitVec 32 := 128#32
  let v1763 : BitVec 32 := Scalar.muli v1762 c128_i32_226
  v1763
def k1_mult51 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c50_i32 : BitVec 32 := 50#32
  let v1795 : BitVec 32 := Scalar.addi v144 c50_i32
  let c128_i32_230 : BitVec 32 := 128#32
  let v1796 : BitVec 32 := Scalar.muli v1795 c128_i32_230
  v1796
def k1_mult52 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c51_i32 : BitVec 32 := 51#32
  let v1828 : BitVec 32 := Scalar.addi v144 c51_i32
  let c128_i32_234 : BitVec 32 := 128#32
  let v1829 : BitVec 32 := Scalar.muli v1828 c128_i32_234
  v1829
def k1_mult53 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c52_i32 : BitVec 32 := 52#32
  let v1861 : BitVec 32 := Scalar.addi v144 c52_i32
  let c128_i32_238 : BitVec 32 := 128#32
  let v1862 : BitVec 32 := Scalar.muli v1861 c128_i32_238
  v1862
def k1_mult54 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c53_i32 : BitVec 32 := 53#32
  let v1894 : BitVec 32 := Scalar.addi v144 c53_i32
  let c128_i32_242 : BitVec 32 := 128#32
  let v1895 : BitVec 32 := Scalar.muli v1894 c128_i32_242
  v1895
def k1_mult55 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c54_i32 : BitVec 32 := 54#32
  let v1927 : BitVec 32 := Scalar.addi v144 c54_i32
  let c128_i32_246 : BitVec 32 := 128#32
  let v1928 : BitVec 32 := Scalar.muli v1927 c128_i32_246
  v1928
def k1_mult56 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c55_i32 : BitVec 32 := 55#32
  let v1960 : BitVec 32 := Scalar.addi v144 c55_i32
  let c128_i32_250 : BitVec 32 := 128#32
  let v1961 : BitVec 32 := Scalar.muli v1960 c128_i32_250
  v1961
def k1_mult57 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c56_i32 : BitVec 32 := 56#32
  let v1993 : BitVec 32 := Scalar.addi v144 c56_i32
  let c128_i32_254 : BitVec 32 := 128#32
  let v1994 : BitVec 32 := Scalar.muli v1993 c128_i32_254
  v1994
def k1_mult58 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c57_i32 : BitVec 32 := 57#32
  let v2026 : BitVec 32 := Scalar.addi v144 c57_i32
  let c128_i32_258 : BitVec 32 := 128#32
  let v2027 : BitVec 32 := Scalar.muli v2026 c128_i32_258
  v2027
def k1_mult59 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c58_i32 : BitVec 32 := 58#32
  let v2059 : BitVec 32 := Scalar.addi v144 c58_i32
  let c128_i32_262 : BitVec 32 := 128#32
  let v2060 : BitVec 32 := Scalar.muli v2059 c128_i32_262
  v2060
def k1_mult60 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c59_i32 : BitVec 32 := 59#32
  let v2092 : BitVec 32 := Scalar.addi v144 c59_i32
  let c128_i32_266 : BitVec 32 := 128#32
  let v2093 : BitVec 32 := Scalar.muli v2092 c128_i32_266
  v2093
def k1_mult61 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c60_i32 : BitVec 32 := 60#32
  let v2125 : BitVec 32 := Scalar.addi v144 c60_i32
  let c128_i32_270 : BitVec 32 := 128#32
  let v2126 : BitVec 32 := Scalar.muli v2125 c128_i32_270
  v2126
def k1_mult62 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c61_i32 : BitVec 32 := 61#32
  let v2158 : BitVec 32 := Scalar.addi v144 c61_i32
  let c128_i32_274 : BitVec 32 := 128#32
  let v2159 : BitVec 32 := Scalar.muli v2158 c128_i32_274
  v2159
def k1_mult63 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c62_i32 : BitVec 32 := 62#32
  let v2191 : BitVec 32 := Scalar.addi v144 c62_i32
  let c128_i32_278 : BitVec 32 := 128#32
  let v2192 : BitVec 32 := Scalar.muli v2191 c128_i32_278
  v2192
def k1_mult64 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c63_i32 : BitVec 32 := 63#32
  let v2224 : BitVec 32 := Scalar.addi v144 c63_i32
  let c128_i32_282 : BitVec 32 := 128#32
  let v2225 : BitVec 32 := Scalar.muli v2224 c128_i32_282
  v2225
def k1_mult65 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c64_i32 : BitVec 32 := 64#32
  let v2257 : BitVec 32 := Scalar.addi v144 c64_i32
  let c128_i32_286 : BitVec 32 := 128#32
  let v2258 : BitVec 32 := Scalar.muli v2257 c128_i32_286
  v2258
def k1_mult66 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c65_i32 : BitVec 32 := 65#32
  let v2290 : BitVec 32 := Scalar.addi v144 c65_i32
  let c128_i32_290 : BitVec 32 := 128#32
  let v2291 : BitVec 32 := Scalar.muli v2290 c128_i32_290
  v2291
def k1_mult67 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c66_i32 : BitVec 32 := 66#32
  let v2323 : BitVec 32 := Scalar.addi v144 c66_i32
  let c128_i32_294 : BitVec 32 := 128#32
  let v2324 : BitVec 32 := Scalar.muli v2323 c128_i32_294
  v2324
def k1_mult68 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c67_i32 : BitVec 32 := 67#32
  let v2356 : BitVec 32 := Scalar.addi v144 c67_i32
  let c128_i32_298 : BitVec 32 := 128#32
  let v2357 : BitVec 32 := Scalar.muli v2356 c128_i32_298
  v2357
def k1_mult69 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c68_i32 : BitVec 32 := 68#32
  let v2389 : BitVec 32 := Scalar.addi v144 c68_i32
  let c128_i32_302 : BitVec 32 := 128#32
  let v2390 : BitVec 32 := Scalar.muli v2389 c128_i32_302
  v2390
def k1_mult70 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c69_i32 : BitVec 32 := 69#32
  let v2422 : BitVec 32 := Scalar.addi v144 c69_i32
  let c128_i32_306 : BitVec 32 := 128#32
  let v2423 : BitVec 32 := Scalar.muli v2422 c128_i32_306
  v2423
def k1_mult71 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c70_i32 : BitVec 32 := 70#32
  let v2455 : BitVec 32 := Scalar.addi v144 c70_i32
  let c128_i32_310 : BitVec 32 := 128#32
  let v2456 : BitVec 32 := Scalar.muli v2455 c128_i32_310
  v2456
def k1_mult72 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c71_i32 : BitVec 32 := 71#32
  let v2488 : BitVec 32 := Scalar.addi v144 c71_i32
  let c128_i32_314 : BitVec 32 := 128#32
  let v2489 : BitVec 32 := Scalar.muli v2488 c128_i32_314
  v2489
def k1_mult73 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c72_i32 : BitVec 32 := 72#32
  let v2521 : BitVec 32 := Scalar.addi v144 c72_i32
  let c128_i32_318 : BitVec 32 := 128#32
  let v2522 : BitVec 32 := Scalar.muli v2521 c128_i32_318
  v2522
def k1_mult74 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c73_i32 : BitVec 32 := 73#32
  let v2554 : BitVec 32 := Scalar.addi v144 c73_i32
  let c128_i32_322 : BitVec 32 := 128#32
  let v2555 : BitVec 32 := Scalar.muli v2554 c128_i32_322
  v2555
def k1_mult75 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c74_i32 : BitVec 32 := 74#32
  let v2587 : BitVec 32 := Scalar.addi v144 c74_i32
  let c128_i32_326 : BitVec 32 := 128#32
  let v2588 : BitVec 32 := Scalar.muli v2587 c128_i32_326
  v2588
def k1_mult76 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c75_i32 : BitVec 32 := 75#32
  let v2620 : BitVec 32 := Scalar.addi v144 c75_i32
  let c128_i32_330 : BitVec 32 := 128#32
  let v2621 : BitVec 32 := Scalar.muli v2620 c128_i32_330
  v2621
def k1_mult77 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c76_i32 : BitVec 32 := 76#32
  let v2653 : BitVec 32 := Scalar.addi v144 c76_i32
  let c128_i32_334 : BitVec 32 := 128#32
  let v2654 : BitVec 32 := Scalar.muli v2653 c128_i32_334
  v2654
def k1_mult78 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c77_i32 : BitVec 32 := 77#32
  let v2686 : BitVec 32 := Scalar.addi v144 c77_i32
  let c128_i32_338 : BitVec 32 := 128#32
  let v2687 : BitVec 32 := Scalar.muli v2686 c128_i32_338
  v2687
def k1_mult79 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c78_i32 : BitVec 32 := 78#32
  let v2719 : BitVec 32 := Scalar.addi v144 c78_i32
  let c128_i32_342 : BitVec 32 := 128#32
  let v2720 : BitVec 32 := Scalar.muli v2719 c128_i32_342
  v2720
def k1_mult80 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c79_i32 : BitVec 32 := 79#32
  let v2752 : BitVec 32 := Scalar.addi v144 c79_i32
  let c128_i32_346 : BitVec 32 := 128#32
  let v2753 : BitVec 32 := Scalar.muli v2752 c128_i32_346
  v2753
def k1_mult81 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c80_i32 : BitVec 32 := 80#32
  let v2785 : BitVec 32 := Scalar.addi v144 c80_i32
  let c128_i32_350 : BitVec 32 := 128#32
  let v2786 : BitVec 32 := Scalar.muli v2785 c128_i32_350
  v2786
def k1_mult82 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c81_i32 : BitVec 32 := 81#32
  let v2818 : BitVec 32 := Scalar.addi v144 c81_i32
  let c128_i32_354 : BitVec 32 := 128#32
  let v2819 : BitVec 32 := Scalar.muli v2818 c128_i32_354
  v2819
def k1_mult83 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c82_i32 : BitVec 32 := 82#32
  let v2851 : BitVec 32 := Scalar.addi v144 c82_i32
  let c128_i32_358 : BitVec 32 := 128#32
  let v2852 : BitVec 32 := Scalar.muli v2851 c128_i32_358
  v2852
def k1_mult84 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c83_i32 : BitVec 32 := 83#32
  let v2884 : BitVec 32 := Scalar.addi v144 c83_i32
  let c128_i32_362 : BitVec 32 := 128#32
  let v2885 : BitVec 32 := Scalar.muli v2884 c128_i32_362
  v2885
def k1_mult85 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c84_i32 : BitVec 32 := 84#32
  let v2917 : BitVec 32 := Scalar.addi v144 c84_i32
  let c128_i32_366 : BitVec 32 := 128#32
  let v2918 : BitVec 32 := Scalar.muli v2917 c128_i32_366
  v2918
def k1_mult86 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c85_i32 : BitVec 32 := 85#32
  let v2950 : BitVec 32 := Scalar.addi v144 c85_i32
  let c128_i32_370 : BitVec 32 := 128#32
  let v2951 : BitVec 32 := Scalar.muli v2950 c128_i32_370
  v2951
def k1_mult87 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c86_i32 : BitVec 32 := 86#32
  let v2983 : BitVec 32 := Scalar.addi v144 c86_i32
  let c128_i32_374 : BitVec 32 := 128#32
  let v2984 : BitVec 32 := Scalar.muli v2983 c128_i32_374
  v2984
def k1_mult88 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c87_i32 : BitVec 32 := 87#32
  let v3016 : BitVec 32 := Scalar.addi v144 c87_i32
  let c128_i32_378 : BitVec 32 := 128#32
  let v3017 : BitVec 32 := Scalar.muli v3016 c128_i32_378
  v3017
def k1_mult89 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c88_i32 : BitVec 32 := 88#32
  let v3049 : BitVec 32 := Scalar.addi v144 c88_i32
  let c128_i32_382 : BitVec 32 := 128#32
  let v3050 : BitVec 32 := Scalar.muli v3049 c128_i32_382
  v3050
def k1_mult90 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c89_i32 : BitVec 32 := 89#32
  let v3082 : BitVec 32 := Scalar.addi v144 c89_i32
  let c128_i32_386 : BitVec 32 := 128#32
  let v3083 : BitVec 32 := Scalar.muli v3082 c128_i32_386
  v3083
def k1_mult91 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c90_i32 : BitVec 32 := 90#32
  let v3115 : BitVec 32 := Scalar.addi v144 c90_i32
  let c128_i32_390 : BitVec 32 := 128#32
  let v3116 : BitVec 32 := Scalar.muli v3115 c128_i32_390
  v3116
def k1_mult92 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c91_i32 : BitVec 32 := 91#32
  let v3148 : BitVec 32 := Scalar.addi v144 c91_i32
  let c128_i32_394 : BitVec 32 := 128#32
  let v3149 : BitVec 32 := Scalar.muli v3148 c128_i32_394
  v3149
def k1_mult93 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c92_i32 : BitVec 32 := 92#32
  let v3181 : BitVec 32 := Scalar.addi v144 c92_i32
  let c128_i32_398 : BitVec 32 := 128#32
  let v3182 : BitVec 32 := Scalar.muli v3181 c128_i32_398
  v3182
def k1_mult94 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c93_i32 : BitVec 32 := 93#32
  let v3214 : BitVec 32 := Scalar.addi v144 c93_i32
  let c128_i32_402 : BitVec 32 := 128#32
  let v3215 : BitVec 32 := Scalar.muli v3214 c128_i32_402
  v3215
def k1_mult95 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c94_i32 : BitVec 32 := 94#32
  let v3247 : BitVec 32 := Scalar.addi v144 c94_i32
  let c128_i32_406 : BitVec 32 := 128#32
  let v3248 : BitVec 32 := Scalar.muli v3247 c128_i32_406
  v3248
def k1_mult96 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c95_i32 : BitVec 32 := 95#32
  let v3280 : BitVec 32 := Scalar.addi v144 c95_i32
  let c128_i32_410 : BitVec 32 := 128#32
  let v3281 : BitVec 32 := Scalar.muli v3280 c128_i32_410
  v3281
def k1_mult97 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c96_i32 : BitVec 32 := 96#32
  let v3313 : BitVec 32 := Scalar.addi v144 c96_i32
  let c128_i32_414 : BitVec 32 := 128#32
  let v3314 : BitVec 32 := Scalar.muli v3313 c128_i32_414
  v3314
def k1_mult98 (k1_t1 : Fin k1_t1_loop.trips) : BitVec 32 :=
  let c0_i32_0 : BitVec 32 := 0#32
  let c1_i32 : BitVec 32 := 1#32
  let arg4 : BitVec 32 := Scf.iv c0_i32_0 c1_i32 k1_t1
  let c2_i32 : BitVec 32 := 2#32
  let v143 : BitVec 32 := Scalar.muli arg4 c2_i32
  let c49_i32 : BitVec 32 := 49#32
  let v144 : BitVec 32 := Scalar.muli v143 c49_i32
  let c97_i32 : BitVec 32 := 97#32
  let v3346 : BitVec 32 := Scalar.addi v144 c97_i32
  let c128_i32_418 : BitVec 32 := 128#32
  let v3347 : BitVec 32 := Scalar.muli v3346 c128_i32_418
  v3347
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100352 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

@[reducible] def k2_t1_loop : Scf.Loop 32 :=
  let c0_i32_24 : BitVec 32 := 0#32
  let c64_i32 : BitVec 32 := 64#32
  let v34 : BitVec 32 := Scalar.addi c0_i32_24 c64_i32
  let c1_i32 : BitVec 32 := 1#32
  ⟨c0_i32_24, v34, c1_i32⟩
def k2_off1 (k2_t1 : Fin k2_t1_loop.trips) : Fin 2 → Nat :=
  let c0_i32_24 : BitVec 32 := 0#32
  let c1_i32 : BitVec 32 := 1#32
  let arg5 : BitVec 32 := Scf.iv c0_i32_24 c1_i32 k2_t1
  let v67 : Index := Scalar.indexCast arg5
  let c0_29 : Index := 0#32
  ![v67.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S100000x128 : Shape := ⟨2, ![100000, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S100000 : Shape := ⟨1, ![100000]⟩
abbrev S1x100000 : Shape := ⟨2, ![1, 100000]⟩
abbrev S4096x100000 : Shape := ⟨2, ![4096, 100000]⟩
abbrev S128x100000 : Shape := ⟨2, ![128, 100000]⟩
abbrev S4096x64 : Shape := ⟨2, ![4096, 64]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S100000x128, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S4096x100000, .f32⟩
  | .hbm, ⟨11, _⟩ => ⟨S4096x100000, .f32⟩
  | .hbm, ⟨12, _⟩ => ⟨S4096x100000, .f32⟩
  | .hbm, ⟨13, _⟩ => ⟨S128x100000, .f32⟩
  | .hbm, ⟨14, _⟩ => ⟨S4096x100000, .f32⟩
  | .hbm, ⟨15, _⟩ => ⟨S_, .f32⟩
  | .hbm, ⟨16, _⟩ => ⟨S4096x100000, .f32⟩
  | .hbm, ⟨17, _⟩ => ⟨S4096x100000, .f32⟩
  | .hbm, ⟨18, _⟩ => ⟨S4096x100000, .f32⟩
  | .hbm, ⟨19, _⟩ => ⟨S_, .f32⟩
  | .hbm, ⟨20, _⟩ => ⟨S4096x100000, .f32⟩
  | .hbm, ⟨21, _⟩ => ⟨S4096x100000, .f32⟩
  | .hbm, ⟨22, _⟩ => ⟨S4096x100000, .f32⟩
  | .hbm, ⟨23, _⟩ => ⟨S4096x100000, .f32⟩
  | .hbm, ⟨24, _⟩ => ⟨S4096x64, .f32⟩
  | .hbm, ⟨25, _⟩ => ⟨S4096x64, .i32⟩
  | .hbm, ⟨26, _⟩ => ⟨S4096x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.KernelRun.lean ====
/-
  The program's run with its two results named: what it leaves in the result buffers is the fold of its segments.
-/
module

public import proofs.«01_k».proof.Proof.Gen.KernelIdeal.Frame

@[expose] public section

set_option maxRecDepth 16384

noncomputable section

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

set_option backward.isDefEq.respectTransparency.types false in
/-- Every execution ends with the two results at the last segment's contents and the arguments as launched. -/
theorem kernel_run : θ_run defs (onTc (τ := τ) (main (F := F))) ⟨m, fun _ => 0, ρ⟩ (fun r => ∀ c : Dev nD,
      r.2.mem ((c.tc : Thread nD τ).loc main_v4) = W6 m ρ c (Proc.devRef .tc main_v4)
      ∧ r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v4 (by decide)), h c _ (mem_uc main_v5 (by decide)),
       (h c _ (mem_uc main_arg0 (by decide))).trans (W6_main_arg0 m ρ c),
       (h c _ (mem_uc main_arg1 (by decide))).trans (W6_main_arg1 m ρ c)⟩)

end Cert.Knn

end
-- ==== Proof.Chain.lean ====
/-
  The selection kernel's arithmetic on whole vectors: a push of one vector of candidates through five slot vectors, the
  ninety-eight pushes of one trip of the kernel's loop as two alternating chains of forty-nine, and the merge network
  behind the loop. Everything here holds for any interpretation of the floating-point operations.
-/
module

public import proofs.«01_k».proof.Proof.Gen.KernelIdeal.Frame

@[expose] public section
set_option maxRecDepth 100000
set_option maxHeartbeats 4000000

noncomputable section

namespace Cert.Knn

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- A vector of values and a vector of row numbers. -/
abbrev VF (F : FTy → Type) : Type := FVec F S8x128 .f32
/-- A vector of row numbers. -/
abbrev VI : Type := IVec S8x128 32

/-- Five slot vectors: the values, then the row numbers. -/
abbrev Slots (F : FTy → Type) : Type :=
  VF F × VF F × VF F × VF F × VF F × VI × VI × VI × VI × VI

/-- The distance a slot keeps when `x` comes by. -/
def pushMin (m x : VF F) : VF F := minimumf m x
/-- The distance it passes on. -/
def pushMax (m x : VF F) : VF F := maximumf m x
/-- The row number it keeps. -/
def keepIdx (m x : VF F) (mi xi : VI) : VI := select (cmpf .olt x m) xi mi
/-- The row number it passes on. -/
def dropIdx (m x : VF F) (mi xi : VI) : VI := select (cmpf .olt x m) mi xi

/-- One push: every slot keeps the smaller and hands the larger on. -/
def insert5 (s : Slots F) (x : VF F) (xi : VI) : Slots F :=
  match s with
  | (a, b, c, d, e, ai, bi, ci, di, ei) =>
    (pushMin a x, pushMin b (pushMax a x), pushMin c (pushMax b (pushMax a x)),
     pushMin d (pushMax c (pushMax b (pushMax a x))),
     pushMin e (pushMax d (pushMax c (pushMax b (pushMax a x)))),
     keepIdx a x ai xi, keepIdx b (pushMax a x) bi (dropIdx a x ai xi),
     keepIdx c (pushMax b (pushMax a x)) ci (dropIdx b (pushMax a x) bi (dropIdx a x ai xi)),
     keepIdx d (pushMax c (pushMax b (pushMax a x))) di
       (dropIdx c (pushMax b (pushMax a x)) ci (dropIdx b (pushMax a x) bi (dropIdx a x ai xi))),
     keepIdx e (pushMax d (pushMax c (pushMax b (pushMax a x)))) ei
       (dropIdx d (pushMax c (pushMax b (pushMax a x))) di
         (dropIdx c (pushMax b (pushMax a x)) ci (dropIdx b (pushMax a x) bi (dropIdx a x ai xi)))))

/-- The candidates of step `r` of trip `k`: 128 columns of the block. -/
def loadAt (arg1 : Memref sig .tc .vmem S8x100352 .f32) (X : BufTy.Contents (Elt F) arg1.view.ty)
    (k : Fin k1_t1_loop.trips) (r : Fin 98) : VF F :=
  shapeCast S8x128 (View.readAt (Elt F) arg1.view
    (Rect.unit (s := S8x100352) (k1_off1 k (BitVec.ofNat 32 r.val)) S8x128.size (k1_off1_inb k r)).toLoadRect X)
    shapeCasts_S8x128_S8x128

/-- Their row numbers. -/
def rowAt (v0 : VI) (k : Fin k1_t1_loop.trips) (r : Fin 98) : VI :=
  addi v0 (broadcast S8x128 (Scalar.muli (Scalar.addi (Scalar.muli (Scalar.muli (Scf.iv 0#32 1#32 k) 2#32) 49#32)
    (BitVec.ofNat 32 r.val)) 128#32))

/-- The steps of parity `p` of trip `k`, one push after another. -/
def chain (arg1 : Memref sig .tc .vmem S8x100352 .f32) (v0 : VI) (X : BufTy.Contents (Elt F) arg1.view.ty)
    (k : Fin k1_t1_loop.trips) (s0 : Slots F) (p : ℕ) : ℕ → Slots F
  | 0 => s0
  | n + 1 => insert5 (chain arg1 v0 X k s0 p n) (loadAt arg1 X k (Fin.ofNat 98 (2 * n + p)))
      (rowAt v0 k (Fin.ofNat 98 (2 * n + p)))

/-- The loop's twenty carried vectors as two sets of slots. -/
def both (s t : Slots F) : VF F × VF F × VF F × VF F × VF F × VI × VI × VI × VI × VI × Slots F :=
  (s.1, s.2.1, s.2.2.1, s.2.2.2.1, s.2.2.2.2.1, s.2.2.2.2.2.1, s.2.2.2.2.2.2.1, s.2.2.2.2.2.2.2.1,
    s.2.2.2.2.2.2.2.2.1, s.2.2.2.2.2.2.2.2.2, t)

/-- Two chains' slots put side by side are determined by the two. -/
theorem both_congr {a b c d e : VF F} {ai bi ci di ei : VI} {t s' t' : Slots F}
    (h : (a, b, c, d, e, ai, bi, ci, di, ei) = s') (h' : t = t') :
    (a, b, c, d, e, ai, bi, ci, di, ei, t) = both s' t' := by subst h h'; rfl

section trip

variable (𝒱 : Variants) (c : Dev nD) (bd : Option 𝒱.V) (i : grid1.Coords)
  (arg1 : Memref sig .tc .vmem S8x100352 .f32) (harg1 : arg1.IsWhole)
  (arg2 : Memref sig .tc .vmem S8x1024 .f32) (harg2 : arg2.IsWhole)
  (arg3 : Memref sig .tc .vmem S8x1024 .i32) (harg3 : arg3.IsWhole) (v0 : VI)
  (X : BufTy.Contents (Elt F) arg1.view.ty) (k : Fin k1_t1_loop.trips)

/-- A chain after one more of its steps. -/
theorem chain_step {a b c d e : VF F} {ai bi ci di ei : VI} {t s0 : Slots F} {p n : ℕ}
    (h' : t = insert5 (a, b, c, d, e, ai, bi, ci, di, ei) (loadAt arg1 X k (Fin.ofNat 98 (2 * n + p)))
      (rowAt v0 k (Fin.ofNat 98 (2 * n + p))))
    (h : (a, b, c, d, e, ai, bi, ci, di, ei) = chain arg1 v0 X k s0 p n) :
    t = chain arg1 v0 X k s0 p (n + 1) := by subst h'; rw [h]; rfl

/-- One trip of the loop is forty-nine pushes through each of the two sets of slots. -/
theorem trip_eq (s t : Slots F) :
    tripR_k1_t1 𝒱 c bd i arg1 harg1 arg2 harg2 arg3 harg3 v0 X k (both s t) =
      both (chain arg1 v0 X k s 0 49) (chain arg1 v0 X k t 1 49) := by
  unfold tripR_k1_t1 trip_k1_t1
  dsimp only
  refine both_congr ?_ ?_
  · iterate 49 refine chain_step arg1 v0 X k rfl ?_
    exact rfl
  · iterate 49 refine chain_step arg1 v0 X k rfl ?_
    exact rfl

end trip

/-! ## The merge network on vectors -/

/-- Where `w` goes before `u`. -/
def swapV (u w : VF F × VI) : IVec S8x128 1 :=
  ori (cmpf .olt w.1 u.1) (andi (cmpf .oeq w.1 u.1) (cmpi .slt w.2 u.2))
/-- The pair that the network puts in the first of two places. -/
def loV (u w : VF F × VI) : VF F × VI := (select (swapV u w) w.1 u.1, select (swapV u w) w.2 u.2)
/-- The pair that the network puts in the second. -/
def hiV (u w : VF F × VI) : VF F × VI := (select (swapV u w) u.1 w.1, select (swapV u w) u.2 w.2)

/-- The two slot sets merged: the `u`-th of eight vectors. -/
def netV (s t : Slots F) (u : Fin 8) : VF F × VI :=
  let a0 := (s.1, s.2.2.2.2.2.1)
  let a1 := (s.2.1, s.2.2.2.2.2.2.1)
  let a2 := (s.2.2.1, s.2.2.2.2.2.2.2.1)
  let a3 := (s.2.2.2.1, s.2.2.2.2.2.2.2.2.1)
  let a4 := (s.2.2.2.2.1, s.2.2.2.2.2.2.2.2.2)
  let b0 := (t.1, t.2.2.2.2.2.1)
  let b1 := (t.2.1, t.2.2.2.2.2.2.1)
  let b2 := (t.2.2.1, t.2.2.2.2.2.2.2.1)
  let b3 := (t.2.2.2.1, t.2.2.2.2.2.2.2.2.1)
  let b4 := (t.2.2.2.2.1, t.2.2.2.2.2.2.2.2.2)
  let l3 := loV a3 b4
  let l4 := loV a4 b3
  let m0 := loV a0 l4
  let m4 := hiV a0 l4
  let m1 := loV a1 b2
  let m5 := hiV a1 b2
  let m2 := loV a2 b1
  let m6 := hiV a2 b1
  let m3 := loV l3 b0
  let m7 := hiV l3 b0
  let n0 := loV m0 m2
  let n2 := hiV m0 m2
  let n1 := loV m1 m3
  let n3 := hiV m1 m3
  let n4 := loV m4 m6
  let n6 := hiV m4 m6
  let n5 := loV m5 m7
  let n7 := hiV m5 m7
  match u with
  | 0 => loV n0 n1
  | 1 => hiV n0 n1
  | 2 => loV n2 n3
  | 3 => hiV n2 n3
  | 4 => loV n4 n5
  | 5 => hiV n4 n5
  | 6 => loV n6 n7
  | 7 => hiV n6 n7

section run

variable (c : Dev nD) (i : grid1.Coords)
  (arg1 : Memref sig .tc .vmem S8x100352 .f32) (harg1 : arg1.IsWhole)
  (arg2 : Memref sig .tc .vmem S8x1024 .f32) (harg2 : arg2.IsWhole)
  (arg3 : Memref sig .tc .vmem S8x1024 .i32) (harg3 : arg3.IsWhole) (x0 : Vec F S8x100352 .f32)

/-- Five empty slot vectors. -/
def slots0 : Slots F :=
  (k1_pay2257, k1_pay2257, k1_pay2257, k1_pay2257, k1_pay2257, k1_pay2258, k1_pay2258, k1_pay2258, k1_pay2258, k1_pay2258)

/-- The carried vectors behind the loop. -/
def behind := st_k1_t1 (F := F) Variants.none c none i arg1 harg1 arg2 harg2 arg3 harg3
  (iota .tc S8x128 32 [1] iota_S8x128_d1_w32) (harg1.unread x0) (both slots0 slots0)
  (Scf.trips k1_t1_loop.lb k1_t1_loop.ub k1_t1_loop.st)

variable (s t : Slots F) (h : behind c i arg1 harg1 arg2 harg2 arg3 harg3 x0 = both s t)
include h

/-- What the selection kernel stores in its block of values: the eight merged vectors, side by side. -/
theorem pieces1_1 : (kernelRun1_A c i arg1 harg1 arg2 harg2 arg3 harg3 x0).1 =
    [⟨Rect.unit ![0, 896] ![8, 128] inb_S8x1024_S8x128_0_896, (netV s t 7).1⟩,
     ⟨Rect.unit ![0, 768] ![8, 128] inb_S8x1024_S8x128_0_768, (netV s t 6).1⟩,
     ⟨Rect.unit ![0, 640] ![8, 128] inb_S8x1024_S8x128_0_640, (netV s t 5).1⟩,
     ⟨Rect.unit ![0, 512] ![8, 128] inb_S8x1024_S8x128_0_512, (netV s t 4).1⟩,
     ⟨Rect.unit ![0, 384] ![8, 128] inb_S8x1024_S8x128_0_384, (netV s t 3).1⟩,
     ⟨Rect.unit ![0, 256] ![8, 128] inb_S8x1024_S8x128_0_256, (netV s t 2).1⟩,
     ⟨Rect.unit ![0, 128] ![8, 128] inb_S8x1024_S8x128_0_128, (netV s t 1).1⟩,
     ⟨Rect.unit ![0, 0] ![8, 128] inb_S8x1024_S8x128_0_0, (netV s t 0).1⟩] := by
  have hs : s = (let b := behind c i arg1 harg1 arg2 harg2 arg3 harg3 x0
    (b.1, b.2.1, b.2.2.1, b.2.2.2.1, b.2.2.2.2.1, b.2.2.2.2.2.1, b.2.2.2.2.2.2.1, b.2.2.2.2.2.2.2.1,
      b.2.2.2.2.2.2.2.2.1, b.2.2.2.2.2.2.2.2.2.1)) := by rw [h]; rfl
  have ht : t = (behind c i arg1 harg1 arg2 harg2 arg3 harg3 x0).2.2.2.2.2.2.2.2.2.2 := by rw [h]; rfl
  rw [hs, ht]
  unfold kernelRun1_A
  dsimp only
  rfl

/-- What the selection kernel stores in its block of row numbers: the eight merged vectors, side by side. -/
theorem pieces1_2 : (kernelRun1_A c i arg1 harg1 arg2 harg2 arg3 harg3 x0).2.1 =
    [⟨Rect.unit ![0, 896] ![8, 128] inb_S8x1024_S8x128_0_896, (netV s t 7).2⟩,
     ⟨Rect.unit ![0, 768] ![8, 128] inb_S8x1024_S8x128_0_768, (netV s t 6).2⟩,
     ⟨Rect.unit ![0, 640] ![8, 128] inb_S8x1024_S8x128_0_640, (netV s t 5).2⟩,
     ⟨Rect.unit ![0, 512] ![8, 128] inb_S8x1024_S8x128_0_512, (netV s t 4).2⟩,
     ⟨Rect.unit ![0, 384] ![8, 128] inb_S8x1024_S8x128_0_384, (netV s t 3).2⟩,
     ⟨Rect.unit ![0, 256] ![8, 128] inb_S8x1024_S8x128_0_256, (netV s t 2).2⟩,
     ⟨Rect.unit ![0, 128] ![8, 128] inb_S8x1024_S8x128_0_128, (netV s t 1).2⟩,
     ⟨Rect.unit ![0, 0] ![8, 128] inb_S8x1024_S8x128_0_0, (netV s t 0).2⟩] := by
  have hs : s = (let b := behind c i arg1 harg1 arg2 harg2 arg3 harg3 x0
    (b.1, b.2.1, b.2.2.1, b.2.2.2.1, b.2.2.2.2.1, b.2.2.2.2.2.1, b.2.2.2.2.2.2.1, b.2.2.2.2.2.2.2.1,
      b.2.2.2.2.2.2.2.2.1, b.2.2.2.2.2.2.2.2.2.1)) := by rw [h]; rfl
  have ht : t = (behind c i arg1 harg1 arg2 harg2 arg3 harg3 x0).2.2.2.2.2.2.2.2.2.2 := by rw [h]; rfl
  rw [hs, ht]
  unfold kernelRun1_A
  dsimp only
  rfl

end run

end Cert.Knn
-- ==== Proof.Rank.lean ====
/-
  The selection as mathematics, with no kernel in it: a run of slots that keeps the smallest values it has seen, the
  network that merges two such runs, and what both hold when at most five of the wanted rows share a run.
-/
module

public import Mathlib.Data.EReal.Basic
public import Mathlib.Data.Prod.Lex
public import Mathlib.Data.Finset.Card
public import Mathlib.Order.Interval.Finset.Nat
public import Mathlib.Tactic.IntervalCases
public import Mathlib.Tactic.Ring
public import Mathlib.Tactic.Linarith
public import Mathlib.Data.Finset.Range
public import Mathlib.Data.Fintype.Fin

@[expose] public section

noncomputable section

open Classical

namespace Cert.Knn

/-- One slot of the selection: a squared distance and the row number it belongs to. -/
abbrev Cell : Type := EReal × BitVec 32

/-- The empty slot. -/
def blank : Cell := (⊤, 0#32)

/-- The smaller of two slots by value; the old one `m` on a tie. -/
def keep (m x : Cell) : Cell := if x.1 < m.1 then x else m

/-- The larger of two slots by value; the new one `x` on a tie. -/
def drop (m x : Cell) : Cell := if x.1 < m.1 then m else x

/-- A new slot pushed through a run of slots: each keeps the smaller and hands the larger on; the last drops it. -/
def insL : List Cell → Cell → List Cell
  | [], _ => []
  | m :: ms, x => keep m x :: insL ms (drop m x)

/-- Inserting keeps the number of slots. -/
theorem length_insL (L : List Cell) (x : Cell) : (insL L x).length = L.length := by
  induction L generalizing x with
  | nil => rfl
  | cons m ms ih => simp [insL, ih]

/-- A slot keeps what it has or what comes by. -/
theorem keep_cases (m x : Cell) : keep m x = m ∨ keep m x = x := by
  unfold keep; split <;> simp

/-- It passes on what it has or what comes by. -/
theorem drop_cases (m x : Cell) : drop m x = m ∨ drop m x = x := by
  unfold drop; split <;> simp

/-- Everything in a run after a push was in it before or is the pushed slot. -/
theorem mem_insL {L : List Cell} {x y : Cell} (h : y ∈ insL L x) : y = x ∨ y ∈ L := by
  induction L generalizing x with
  | nil => simp [insL] at h
  | cons m ms ih =>
    simp only [insL, List.mem_cons] at h
    rcases h with h | h
    · rcases keep_cases m x with e | e <;> simp [h, e]
    · rcases ih h with h | h
      · rcases drop_cases m x with e | e <;> simp [h, e]
      · simp [h]

/-- What it keeps is no farther than what it passes on. -/
theorem keep_le_drop (m x : Cell) : (keep m x).1 ≤ (drop m x).1 := by
  unfold keep drop; split
  · exact le_of_lt ‹_›
  · exact le_of_not_gt ‹_›

/-- What it keeps is no farther than what it had. -/
theorem keep_le (m x : Cell) : (keep m x).1 ≤ m.1 := by
  unfold keep; split
  · exact le_of_lt ‹_›
  · exact le_refl _

/-- A push keeps a run in order of value. -/
theorem sorted_insL {L : List Cell} (h : L.Pairwise (fun a b => a.1 ≤ b.1)) (x : Cell) :
    (insL L x).Pairwise (fun a b => a.1 ≤ b.1) := by
  induction L generalizing x with
  | nil => simp [insL]
  | cons m ms ih =>
    rw [List.pairwise_cons] at h
    rw [insL, List.pairwise_cons]
    refine ⟨fun y hy => ?_, ih h.2 _⟩
    rcases mem_insL hy with e | e
    · rw [e]; exact keep_le_drop m x
    · exact (keep_le m x).trans (h.1 y e)

/-- A property of slots that, among the slots of `Ω`, only looks at how small the value is. -/
def Down (Ω : Set Cell) (D : Cell → Prop) : Prop := ∀ x ∈ Ω, ∀ y ∈ Ω, x.1 ≤ y.1 → D y → D x

/-- In a run in order of value, the slots with the property come first. -/
theorem countP_insL {Ω : Set Cell} {D : Cell → Prop} (hD : Down Ω D) {L : List Cell}
    (hs : L.Pairwise (fun a b => a.1 ≤ b.1)) (hL : ∀ y ∈ L, y ∈ Ω) {x : Cell} (hx : x ∈ Ω) :
    (insL L x).countP (fun y => decide (D y)) =
      min L.length (L.countP (fun y => decide (D y)) + if D x then 1 else 0) := by
  induction L generalizing x with
  | nil => simp [insL]
  | cons m ms ih =>
    rw [List.pairwise_cons] at hs
    have hm : m ∈ Ω := hL m (by simp)
    have hms : ∀ y ∈ ms, y ∈ Ω := fun y hy => hL y (by simp [hy])
    have hd : drop m x ∈ Ω := by rcases drop_cases m x with e | e <;> rw [e] <;> assumption
    have hlo : D (keep m x) ↔ (D m ∨ D x) := by
      unfold keep; split
      · rename_i h; exact ⟨Or.inr, fun hh => hh.elim (hD x hx m hm h.le) id⟩
      · rename_i h; exact ⟨Or.inl, fun hh => hh.elim id (hD m hm x hx (le_of_not_gt h))⟩
    have hhi : D (drop m x) ↔ (D m ∧ D x) := by
      unfold drop; split
      · rename_i h; exact ⟨fun hh => ⟨hh, hD x hx m hm h.le hh⟩, fun hh => hh.1⟩
      · rename_i h; exact ⟨fun hh => ⟨hD m hm x hx (le_of_not_gt h) hh, hh⟩, fun hh => hh.2⟩
    have hz : ¬ D m → ms.countP (fun y => decide (D y)) = 0 := by
      intro h
      rw [List.countP_eq_zero]
      intro y hy
      simp only [decide_eq_true_eq]
      exact fun hy' => h (hD m hm y (hms y hy) (hs.1 y hy) hy')
    have hle : ms.countP (fun y => decide (D y)) ≤ ms.length := List.countP_le_length
    rw [insL, List.countP_cons, ih hs.2 hms hd, List.countP_cons, List.length_cons]
    simp only [hlo, hhi, decide_eq_true_eq]
    by_cases h1 : D m <;> by_cases h2 : D x
    · simp only [h1, h2, or_true, and_true, if_true]; omega
    · simp only [h1, h2, or_false, and_false, if_true, if_false]; omega
    · simp only [h1, h2, or_true, false_and, if_true, if_false, hz h1]; omega
    · simp only [h1, h2, or_false, and_false, if_false, hz h1]; omega

/-- The slots with the property come first. -/
theorem getElem_iff_lt_countP {Ω : Set Cell} {D : Cell → Prop} (hD : Down Ω D) {L : List Cell}
    (hs : L.Pairwise (fun a b => a.1 ≤ b.1)) (hL : ∀ y ∈ L, y ∈ Ω) (i : ℕ) (hi : i < L.length) :
    D L[i] ↔ i < L.countP (fun y => decide (D y)) := by
  induction L generalizing i with
  | nil => simp at hi
  | cons m ms ih =>
    rw [List.pairwise_cons] at hs
    have hm : m ∈ Ω := hL m (by simp)
    have hms : ∀ y ∈ ms, y ∈ Ω := fun y hy => hL y (by simp [hy])
    have hz : ¬ D m → ms.countP (fun y => decide (D y)) = 0 := by
      intro h
      rw [List.countP_eq_zero]
      intro y hy
      simp only [decide_eq_true_eq]
      exact fun hy' => h (hD m hm y (hms y hy) (hs.1 y hy) hy')
    rw [List.countP_cons]
    by_cases h1 : D m
    · cases i with
      | zero => simp [h1]
      | succ i =>
        simp only [List.getElem_cons_succ, h1, decide_true, if_true]
        rw [ih hs.2 hms i (by simpa using hi)]
        omega
    · have := hz h1
      cases i with
      | zero => simp [h1, this]
      | succ i =>
        simp only [List.getElem_cons_succ, h1, decide_false, this]
        have hi' : i < ms.length := by simpa using hi
        have := ih hs.2 hms i hi'
        simp [this, hz h1]

/-! ## The run of a bin -/

/-- The run of five slots after `J` pushes of the slots `x 0`, `x 1`, …, from five empty ones. -/
def run (x : ℕ → Cell) : ℕ → List Cell
  | 0 => List.replicate 5 blank
  | J + 1 => insL (run x J) (x J)

/-- A run has five slots. -/
theorem length_run (x : ℕ → Cell) (J : ℕ) : (run x J).length = 5 := by
  induction J with
  | zero => rfl
  | succ J ih => rw [run, length_insL, ih]

/-- A run's slots are blank or among what came by. -/
theorem mem_run {x : ℕ → Cell} {J : ℕ} {y : Cell} (h : y ∈ run x J) : y = blank ∨ ∃ j < J, y = x j := by
  induction J with
  | zero => left; exact List.eq_of_mem_replicate h
  | succ J ih =>
    rcases mem_insL h with e | e
    · exact Or.inr ⟨J, by omega, e⟩
    · rcases ih e with e | ⟨j, hj, e⟩
      · exact Or.inl e
      · exact Or.inr ⟨j, by omega, e⟩

/-- A run's distances are in order. -/
theorem sorted_run (x : ℕ → Cell) (J : ℕ) : (run x J).Pairwise (fun a b => a.1 ≤ b.1) := by
  induction J with
  | zero => simp [run, blank]
  | succ J ih => exact sorted_insL ih _

/-- After `J` pushes the run holds as many slots with the property as were pushed, up to five. -/
theorem countP_run {Ω : Set Cell} {D : Cell → Prop} (hD : Down Ω D) {x : ℕ → Cell} (hn : blank ∈ Ω) (hDn : ¬ D blank)
    (J : ℕ) (hx : ∀ j < J, x j ∈ Ω) :
    (run x J).countP (fun y => decide (D y)) = min 5 ((Finset.range J).filter (fun j => D (x j))).card := by
  induction J with
  | zero => simp [run, hDn]
  | succ J ih =>
    have hL : ∀ y ∈ run x J, y ∈ Ω := by
      intro y hy
      rcases mem_run hy with e | ⟨j, hj, e⟩
      · rw [e]; exact hn
      · rw [e]; exact hx j (by omega)
    rw [run, countP_insL hD (sorted_run x J) hL (hx J (by omega)), length_run, ih (fun j hj => hx j (by omega)),
      Finset.range_add_one, Finset.filter_insert]
    split
    · rw [Finset.card_insert_of_notMem (by simp)]; omega
    · omega

/-! ## The merge of two runs -/

/-- A slot's key: its value, then its row number read as a signed word. -/
def key (c : Cell) : Lex (EReal × ℤ) := toLex (c.1, c.2.toInt)

/-- A rank is less when the distance is, or at equal distances the row number. -/
theorem key_lt_iff (u w : Cell) : key w < key u ↔ w.1 < u.1 ∨ w.1 = u.1 ∧ w.2.toInt < u.2.toInt := by
  unfold key; rw [Prod.Lex.toLex_lt_toLex]

/-- A pair is determined by its rank. -/
theorem key_injective : Function.Injective key := by
  rintro ⟨a, b⟩ ⟨c, d⟩ h
  have h' : (a, b.toInt) = (c, d.toInt) := toLex.injective h
  rw [Prod.mk.injEq] at h'
  exact Prod.ext h'.1 (BitVec.eq_of_toInt_eq h'.2)

/-- A slot lies at or below the key `κ`. -/
def Below (κ : Lex (EReal × ℤ)) (y : Cell) : Prop := key y ≤ κ

/-- The smaller of two slots by key. -/
def lo (u w : Cell) : Cell := if key w < key u then w else u

/-- The larger of two slots by key. -/
def hi (u w : Cell) : Cell := if key w < key u then u else w

/-- The network that merges two runs of five into the eight smallest. -/
def net : List Cell → List Cell → List Cell
  | [a0, a1, a2, a3, a4], [b0, b1, b2, b3, b4] =>
    let l3 := lo a3 b4
    let l4 := lo a4 b3
    let m0 := lo a0 l4
    let m4 := hi a0 l4
    let m1 := lo a1 b2
    let m5 := hi a1 b2
    let m2 := lo a2 b1
    let m6 := hi a2 b1
    let m3 := lo l3 b0
    let m7 := hi l3 b0
    let n0 := lo m0 m2
    let n2 := hi m0 m2
    let n1 := lo m1 m3
    let n3 := hi m1 m3
    let n4 := lo m4 m6
    let n6 := hi m4 m6
    let n5 := lo m5 m7
    let n7 := hi m5 m7
    [lo n0 n1, hi n0 n1, lo n2 n3, hi n2 n3, lo n4 n5, hi n4 n5, lo n6 n7, hi n6 n7]
  | _, _ => []

/-- The lesser of two pairs is one of them. -/
theorem lo_cases (u w : Cell) : lo u w = u ∨ lo u w = w := by unfold lo; split <;> simp
/-- The greater of two pairs is one of them. -/
theorem hi_cases (u w : Cell) : hi u w = u ∨ hi u w = w := by unfold hi; split <;> simp

/-- A property both slots have, the smaller and the larger have. -/
theorem lo_of {p : Cell → Prop} {u w : Cell} (hu : p u) (hw : p w) : p (lo u w) := by
  rcases lo_cases u w with e | e <;> rw [e] <;> assumption
/-- What holds of two pairs holds of the greater. -/
theorem hi_of {p : Cell → Prop} {u w : Cell} (hu : p u) (hw : p w) : p (hi u w) := by
  rcases hi_cases u w with e | e <;> rw [e] <;> assumption

/-- The network only moves slots: what all of both runs satisfy, all of the result does. -/
theorem net_of {p : Cell → Prop} {A B : List Cell} (hA : ∀ y ∈ A, p y) (hB : ∀ y ∈ B, p y) : ∀ y ∈ net A B, p y := by
  unfold net
  split
  · simp only [List.mem_cons, List.not_mem_nil, or_false, forall_eq_or_imp, forall_eq] at hA hB ⊢
    obtain ⟨h0, h1, h2, h3, h4⟩ := hA
    obtain ⟨g0, g1, g2, g3, g4⟩ := hB
    refine ⟨?_, ?_, ?_, ?_, ?_, ?_, ?_, ?_⟩ <;>
      repeat' first | assumption | apply lo_of | apply hi_of
  · simp

/-- Of two runs the network keeps eight slots. -/
theorem length_net {A B : List Cell} (hA : A.length = 5) (hB : B.length = 5) : (net A B).length = 8 := by
  match A, B, hA, hB with
  | [_, _, _, _, _], [_, _, _, _, _], _, _ => rfl

/-- The lesser pair is at or below a rank when one of the two is. -/
theorem key_lo_le (κ : Lex (EReal × ℤ)) (u w : Cell) :
    decide (Below κ (lo u w)) = (decide (Below κ u) || decide (Below κ w)) := by
  unfold lo Below; split
  · rename_i h
    by_cases h1 : key w ≤ κ
    · simp [h1]
    · have : ¬ key u ≤ κ := fun h2 => h1 (h.le.trans h2)
      simp [h1, this]
  · rename_i h
    by_cases h1 : key u ≤ κ
    · simp [h1]
    · have : ¬ key w ≤ κ := fun h2 => h1 ((le_of_not_gt h).trans h2)
      simp [h1, this]

/-- The greater pair is at or below a rank when both are. -/
theorem key_hi_le (κ : Lex (EReal × ℤ)) (u w : Cell) :
    decide (Below κ (hi u w)) = (decide (Below κ u) && decide (Below κ w)) := by
  unfold hi Below; split
  · rename_i h
    by_cases h1 : key u ≤ κ
    · have : key w ≤ κ := h.le.trans h1
      simp [h1, this]
    · simp [h1]
  · rename_i h
    by_cases h1 : key w ≤ κ
    · have : key u ≤ κ := (le_of_not_gt h).trans h1
      simp [h1, this]
    · simp [h1]

/-- The network on truth values: two runs, each with its true entries first, come out with the true entries first. -/
theorem net_bool : ∀ a0 a1 a2 a3 a4 b0 b1 b2 b3 b4 : Bool,
    (a1 → a0) → (a2 → a1) → (a3 → a2) → (a4 → a3) → (b1 → b0) → (b2 → b1) → (b3 → b2) → (b4 → b3) →
    let c := a0.toNat + a1.toNat + a2.toNat + a3.toNat + a4.toNat + b0.toNat + b1.toNat + b2.toNat + b3.toNat + b4.toNat
    let l3 := a3 || b4
    let l4 := a4 || b3
    let m0 := a0 || l4
    let m4 := a0 && l4
    let m1 := a1 || b2
    let m5 := a1 && b2
    let m2 := a2 || b1
    let m6 := a2 && b1
    let m3 := l3 || b0
    let m7 := l3 && b0
    let n0 := m0 || m2
    let n2 := m0 && m2
    let n1 := m1 || m3
    let n3 := m1 && m3
    let n4 := m4 || m6
    let n6 := m4 && m6
    let n5 := m5 || m7
    let n7 := m5 && m7
    (n0 || n1) = decide (0 < c) ∧ (n0 && n1) = decide (1 < c) ∧ (n2 || n3) = decide (2 < c) ∧
    (n2 && n3) = decide (3 < c) ∧ (n4 || n5) = decide (4 < c) ∧ (n4 && n5) = decide (5 < c) ∧
    (n6 || n7) = decide (6 < c) ∧ (n6 && n7) = decide (7 < c) := by
  decide +kernel

/-- The merge of two runs whose slots at or below a key come first has its slots at or below that key first. -/
theorem net_getElem {A B : List Cell} (hA : A.length = 5) (hB : B.length = 5) (κ : Lex (EReal × ℤ))
    (pA : ∀ i (h : i < A.length), Below κ A[i] ↔ i < A.countP (fun y => decide (Below κ y)))
    (pB : ∀ i (h : i < B.length), Below κ B[i] ↔ i < B.countP (fun y => decide (Below κ y)))
    (i : ℕ) (h : i < (net A B).length) :
    Below κ (net A B)[i] ↔
      i < A.countP (fun y => decide (Below κ y)) + B.countP (fun y => decide (Below κ y)) := by
  match A, B, hA, hB with
  | [a0, a1, a2, a3, a4], [b0, b1, b2, b3, b4], _, _ =>
    have step : ∀ (L : List Cell), (∀ i (h : i < L.length), Below κ L[i] ↔ i < L.countP (fun y => decide (Below κ y))) →
        ∀ i (h : i + 1 < L.length), decide (Below κ L[i+1]) = true → decide (Below κ L[i]) = true := by
      intro L hL i h
      simp only [decide_eq_true_eq]
      rw [hL _ h, hL i (by omega)]; omega
    have hc : ∀ (x : Cell), (if decide (Below κ x) = true then 1 else 0) = (decide (Below κ x)).toNat := by
      intro x; cases decide (Below κ x) <;> rfl
    have hb := net_bool (decide (Below κ a0)) (decide (Below κ a1)) (decide (Below κ a2)) (decide (Below κ a3))
      (decide (Below κ a4)) (decide (Below κ b0)) (decide (Below κ b1)) (decide (Below κ b2)) (decide (Below κ b3))
      (decide (Below κ b4)) (step _ pA 0 (by simp)) (step _ pA 1 (by simp)) (step _ pA 2 (by simp)) (step _ pA 3 (by simp))
      (step _ pB 0 (by simp)) (step _ pB 1 (by simp)) (step _ pB 2 (by simp)) (step _ pB 3 (by simp))
    simp only [List.countP_cons, List.countP_nil, hc]
    have hcount : (0 + (decide (Below κ a4)).toNat + (decide (Below κ a3)).toNat + (decide (Below κ a2)).toNat
        + (decide (Below κ a1)).toNat + (decide (Below κ a0)).toNat)
        + (0 + (decide (Below κ b4)).toNat + (decide (Below κ b3)).toNat + (decide (Below κ b2)).toNat
        + (decide (Below κ b1)).toNat + (decide (Below κ b0)).toNat)
        = (decide (Below κ a0)).toNat + (decide (Below κ a1)).toNat + (decide (Below κ a2)).toNat
        + (decide (Below κ a3)).toNat + (decide (Below κ a4)).toNat + (decide (Below κ b0)).toNat
        + (decide (Below κ b1)).toNat + (decide (Below κ b2)).toNat + (decide (Below κ b3)).toNat
        + (decide (Below κ b4)).toNat := by omega
    rw [hcount]
    simp only [← key_lo_le, ← key_hi_le] at hb
    simp only [decide_eq_decide] at hb
    obtain ⟨h0, h1, h2, h3, h4, h5, h6, h7⟩ := hb
    have hi8 : i < 8 := h
    interval_cases i
    · exact h0
    · exact h1
    · exact h2
    · exact h3
    · exact h4
    · exact h5
    · exact h6
    · exact h7

end Cert.Knn
-- ==== Proof.Picks.lean ====
/-
  The 64 wanted rows of one query, and what the selection's runs hold of them: in every lane the wanted rows come
  first, in order, so repeated extraction of the smallest front yields exactly the wanted rows.
-/
module

public import Mathlib.Data.List.GetD
public import proofs.«01_k».proof.Proof.Rank

@[expose] public section

noncomputable section

open Classical

namespace Cert.Knn

/-- The rank of row `n`: its distance, then its number. -/
def rk (d : ℕ → EReal) (n : ℕ) : Lex (EReal × ℤ) := toLex (d n, (n : ℤ))

/-- The slot of row `n`. -/
def cell (d : ℕ → EReal) (n : ℕ) : Cell := (d n, BitVec.ofNat 32 n)

/-- A small number's word, read as signed, is the number. -/
theorem toInt_ofNat_small {n : ℕ} (h : n < 2 ^ 31) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

/-- A row's pair is ranked by its distance, then by its number. -/
theorem key_cell (d : ℕ → EReal) {n : ℕ} (h : n < 100352) : key (cell d n) = rk d n := by
  unfold key cell rk
  rw [toInt_ofNat_small (by omega)]

/-- `π 0, …, π 63` are the 64 nearest rows in order of distance and then of number; no bin (row number modulo 256) holds
    more than five of them, no lane (modulo 128) more than eight, and no two rows of a bin tie within the 64th distance.
    From row 100000 on the distance is infinite. -/
structure Picks (d : ℕ → EReal) (π : ℕ → ℕ) : Prop where
  lt : ∀ r < 64, π r < 100000
  inc : ∀ r < 64, ∀ s < 64, r < s → rk d (π r) < rk d (π s)
  rest : ∀ n < 100000, (∃ r < 64, n = π r) ∨ rk d (π 63) < rk d n
  fin : ∀ r < 64, d (π r) < ⊤
  pad : ∀ n, 100000 ≤ n → d n = ⊤
  bin : ∀ n < 100000, ∀ n' < 100000, n % 256 = n' % 256 → d n = d n' → d n ≤ d (π 63) → n = n'
  five : ∀ b, ((Finset.range 64).filter (fun s => π s % 256 = b)).card ≤ 5
  eight : ∀ l, ((Finset.range 64).filter (fun s => π s % 128 = l)).card ≤ 8

/-- How many of the first `r` wanted rows are `b` modulo `m`. -/
def seen (π : ℕ → ℕ) (m b r : ℕ) : ℕ := ((Finset.range r).filter (fun s => π s % m = b)).card

/-- One more pick counts where it lies in the class. -/
theorem seen_succ (π : ℕ → ℕ) (m b r : ℕ) : seen π m b (r + 1) = seen π m b r + if π r % m = b then 1 else 0 := by
  unfold seen
  rw [Finset.range_add_one, Finset.filter_insert]
  split
  · rw [Finset.card_insert_of_notMem (by simp)]
  · rfl

/-- More picks count at least as many. -/
theorem seen_mono (π : ℕ → ℕ) (m b : ℕ) {r s : ℕ} (h : r ≤ s) : seen π m b r ≤ seen π m b s := by
  unfold seen
  exact Finset.card_le_card (Finset.filter_subset_filter _ (Finset.range_mono h))

/-- A lane's picks are those of its two bins. -/
theorem seen_split (π : ℕ → ℕ) {l : ℕ} (hl : l < 128) (r : ℕ) :
    seen π 256 l r + seen π 256 (l + 128) r = seen π 128 l r := by
  induction r with
  | zero => simp [seen]
  | succ r ih =>
    rw [seen_succ, seen_succ, seen_succ, ← ih]
    by_cases h1 : π r % 256 = l
    · have h2 : ¬ π r % 256 = l + 128 := by omega
      have h3 : π r % 128 = l := by omega
      rw [if_pos h1, if_neg h2, if_pos h3]; omega
    · by_cases h2 : π r % 256 = l + 128
      · have h3 : π r % 128 = l := by omega
        rw [if_neg h1, if_pos h2, if_pos h3]; omega
      · have h3 : ¬ π r % 128 = l := by omega
        rw [if_neg h1, if_neg h2, if_neg h3]; omega

namespace Picks

variable {d : ℕ → EReal} {π : ℕ → ℕ} (P : Picks d π)
include P

/-- The picks are in the order of their ranks. -/
theorem rk_le {r s : ℕ} (hr : r < 64) (hs : s < 64) : rk d (π r) ≤ rk d (π s) ↔ r ≤ s := by
  constructor
  · intro h
    by_contra hc
    exact absurd (P.inc s hs r hr (by omega)) (not_lt.mpr h)
  · intro h
    rcases Nat.lt_or_eq_of_le h with h | h
    · exact (P.inc r hr s hs h).le
    · rw [h]

/-- No row is picked twice. -/
theorem inj {r s : ℕ} (hr : r < 64) (hs : s < 64) (h : π r = π s) : r = s := by
  have h1 := (P.rk_le hr hs).mp (by rw [h])
  have h2 := (P.rk_le hs hr).mp (by rw [h])
  omega

/-- A row is at most the `r`-th wanted row exactly when it is one of the first `r + 1` wanted rows. -/
theorem le_iff {n r : ℕ} (hr : r < 64) : rk d n ≤ rk d (π r) ↔ ∃ s ≤ r, n = π s := by
  constructor
  · intro h
    by_cases hn : n < 100000
    · rcases P.rest n hn with ⟨s, hs, e⟩ | h'
      · refine ⟨s, ?_, e⟩
        rw [e] at h
        exact (P.rk_le hs hr).mp h
      · have : rk d (π r) ≤ rk d (π 63) := (P.rk_le hr (by omega)).mpr (by omega)
        exact absurd (h.trans this) (not_le.mpr h')
    · exfalso
      have h1 := P.pad n (by omega)
      have h2 := P.fin r hr
      unfold rk at h
      rw [Prod.Lex.toLex_le_toLex, h1] at h
      rcases h with h | h
      · exact absurd h (not_lt.mpr h2.le)
      · exact absurd h.1.symm h2.ne
  · rintro ⟨s, hs, rfl⟩
    exact (P.rk_le (by omega) hr).mpr hs

/-- A blank slot ranks above every pick. -/
theorem not_none_le {r : ℕ} (hr : r < 64) : ¬ Below (rk d (π r)) blank := by
  intro h
  unfold Below key blank rk at h
  rw [Prod.Lex.toLex_le_toLex] at h
  have h2 := P.fin r hr
  rcases h with h | h
  · exact absurd h (not_lt.mpr le_top)
  · exact absurd h.1.symm h2.ne

/-- The slots that can lie in bin `b`'s run. -/
def slots (d : ℕ → EReal) (b : ℕ) : Set Cell := {y | y = blank ∨ ∃ j < 392, y = cell d (256 * j + b)}

omit P in
/-- A bin's rows are rows of the padded array. -/
theorem slots_lt {b : ℕ} (hb : b < 256) {j : ℕ} (hj : j < 392) : 256 * j + b < 100352 := by omega

/-- Among the slots of one bin, being at or below the `r`-th wanted row only looks at the value. -/
theorem down {b r : ℕ} (hb : b < 256) (hr : r < 64) : Down (slots d b) (Below (rk d (π r))) := by
  rintro x hx y hy hxy hD
  rcases hy with rfl | ⟨j, hj, rfl⟩
  · exact absurd hD (P.not_none_le hr)
  · have hn : 256 * j + b < 100352 := by omega
    unfold Below at hD
    rw [key_cell d hn] at hD
    obtain ⟨s, hs, e⟩ := (P.le_iff hr).mp hD
    have hy1 : 256 * j + b < 100000 := e ▸ P.lt s (by omega)
    have hyt : d (256 * j + b) < ⊤ := e ▸ P.fin s (by omega)
    rcases hx with rfl | ⟨j', hj', rfl⟩
    · exact absurd hxy (not_le.mpr hyt)
    · have hn' : 256 * j' + b < 100352 := by omega
      dsimp only [cell] at hxy
      by_cases hx1 : 256 * j' + b < 100000
      · unfold Below
        rw [key_cell d hn']
        rcases lt_or_eq_of_le hxy with h | h
        · refine le_trans (le_of_lt ?_) hD
          unfold rk
          rw [Prod.Lex.toLex_lt_toLex]
          exact Or.inl h
        · have hle : d (256 * j + b) ≤ d (π 63) := by
            have h3 : rk d (256 * j + b) ≤ rk d (π 63) := (P.le_iff (by omega)).mpr ⟨s, by omega, e⟩
            unfold rk at h3
            rw [Prod.Lex.toLex_le_toLex] at h3
            rcases h3 with h3 | h3
            · exact h3.le
            · exact h3.1.le
          have := P.bin _ hx1 _ hy1 (by omega) h (h ▸ hle)
          rw [this]; exact hD
      · rw [P.pad _ (by omega)] at hxy
        exact absurd hxy (not_le.mpr hyt)

/-- The run of bin `b` after all its rows. -/
def binRun (d : ℕ → EReal) (b : ℕ) : List Cell := run (fun j => cell d (256 * j + b)) 392

omit P in
/-- What a bin's run holds is blank or one of the bin's rows. -/
theorem mem_binRun {b : ℕ} {y : Cell} (h : y ∈ binRun d b) : y ∈ slots d b := by
  rcases mem_run h with e | ⟨j, hj, e⟩
  · exact Or.inl e
  · exact Or.inr ⟨j, hj, e⟩

/-- The rows of a bin that rank at most the `r`-th pick are the bin's picks up to it. -/
theorem card_bin {b r : ℕ} (hb : b < 256) (hr : r < 64) :
    ((Finset.range 392).filter (fun j => Below (rk d (π r)) (cell d (256 * j + b)))).card = seen π 256 b (r + 1) := by
  unfold seen
  symm
  refine Finset.card_bij (fun s _ => π s / 256) ?_ ?_ ?_
  · intro s hs
    simp only [Finset.mem_filter, Finset.mem_range] at hs ⊢
    have h1 := P.lt s (by omega)
    have e : 256 * (π s / 256) + b = π s := by omega
    refine ⟨by omega, ?_⟩
    unfold Below
    rw [e, key_cell d (by omega)]
    exact (P.le_iff hr).mpr ⟨s, by omega, rfl⟩
  · intro s hs s' hs' h
    simp only [Finset.mem_filter, Finset.mem_range] at hs hs'
    exact P.inj (by omega) (by omega) (by omega)
  · intro j hj
    simp only [Finset.mem_filter, Finset.mem_range] at hj
    have hn : 256 * j + b < 100352 := by omega
    unfold Below at hj
    rw [key_cell d hn] at hj
    obtain ⟨s, hs, e⟩ := (P.le_iff hr).mp hj.2
    refine ⟨s, ?_, by omega⟩
    simp only [Finset.mem_filter, Finset.mem_range]
    exact ⟨by omega, by omega⟩

/-- A bin's five slots hold all of them. -/
theorem countP_binRun {b r : ℕ} (hb : b < 256) (hr : r < 64) :
    (binRun d b).countP (fun y => decide (Below (rk d (π r)) y)) = seen π 256 b (r + 1) := by
  unfold binRun
  rw [countP_run (P.down hb hr) (Or.inl rfl) (P.not_none_le hr) 392 (fun j hj => Or.inr ⟨j, hj, rfl⟩),
    P.card_bin hb hr]
  have h1 : seen π 256 b (r + 1) ≤ seen π 256 b 64 := seen_mono π 256 b (by omega)
  have h2 : seen π 256 b 64 ≤ 5 := P.five b
  omega

/-- What lane `l` holds after its two bins are merged. -/
def lane (d : ℕ → EReal) (l : ℕ) : List Cell := net (binRun d l) (binRun d (l + 128))

omit P in
/-- A lane has eight slots. -/
theorem length_lane (l : ℕ) : (lane d l).length = 8 :=
  length_net (length_run _ _) (length_run _ _)

/-- In a lane the slots at or below the `r`-th wanted row come first, as many as there are wanted rows up to it. -/
theorem lane_key {l r i : ℕ} (hl : l < 128) (hr : r < 64) (h : i < (lane d l).length) :
    Below (rk d (π r)) (lane d l)[i] ↔ i < seen π 128 l (r + 1) := by
  have hp : ∀ b, b < 256 → ∀ i (h : i < (binRun d b).length), Below (rk d (π r)) (binRun d b)[i] ↔
      i < (binRun d b).countP (fun y => decide (Below (rk d (π r)) y)) := fun b hb i h =>
    getElem_iff_lt_countP (P.down hb hr) (sorted_run _ _) (fun y hy => mem_binRun hy) i h
  have := net_getElem (A := binRun d l) (B := binRun d (l + 128)) (length_run _ _) (length_run _ _) (rk d (π r)) (hp l (by omega)) (hp (l + 128) (by omega)) i h
  rw [P.countP_binRun (by omega) hr, P.countP_binRun (by omega) hr, seen_split π hl] at this
  exact this

omit P in
/-- What a lane's slots hold is blank or one of the lane's rows. -/
theorem lane_tag {l : ℕ} (hl : l < 128) {y : Cell} (h : y ∈ lane d l) :
    y = blank ∨ ∃ n < 100352, n % 128 = l ∧ y = cell d n := by
  refine net_of (p := fun y => y = blank ∨ ∃ n < 100352, n % 128 = l ∧ y = cell d n) ?_ ?_ y h
  · intro y hy
    rcases mem_binRun hy with e | ⟨j, hj, e⟩
    · exact Or.inl e
    · exact Or.inr ⟨_, by omega, by omega, e⟩
  · intro y hy
    rcases mem_binRun hy with e | ⟨j, hj, e⟩
    · exact Or.inl e
    · exact Or.inr ⟨_, by omega, by omega, e⟩

attribute [irreducible] binRun lane

/-- Slot `i` of lane `l`, empty from the ninth on. -/
def ext (d : ℕ → EReal) (l i : ℕ) : Cell := (lane d l).getD i blank

omit P in
/-- The same with blanks behind the eighth slot. -/
theorem ext_tag {l : ℕ} (hl : l < 128) (i : ℕ) :
    ext d l i = blank ∨ ∃ n < 100352, n % 128 = l ∧ ext d l i = cell d n := by
  unfold ext
  by_cases h : i < (lane d l).length
  · rw [List.getD_eq_getElem _ _ h]
    exact lane_tag hl (List.getElem_mem h)
  · rw [List.getD_eq_default _ _ (by omega)]
    exact Or.inl rfl

/-- A lane holds at most eight picks. -/
theorem seen_le_eight (l : ℕ) {r : ℕ} (hr : r ≤ 64) : seen π 128 l r ≤ 8 :=
  (seen_mono π 128 l hr).trans (P.eight l)

/-- The slots of a lane that rank at most the `r`-th pick are the first ones, as many as the lane has picks up to it. -/
theorem ext_key {l r : ℕ} (hl : l < 128) (hr : r < 64) (i : ℕ) :
    Below (rk d (π r)) (ext d l i) ↔ i < seen π 128 l (r + 1) := by
  unfold ext
  by_cases h : i < (lane d l).length
  · rw [List.getD_eq_getElem _ _ h]
    exact P.lane_key hl hr h
  · rw [List.getD_eq_default _ _ (by omega)]
    rw [length_lane] at h
    have := P.seen_le_eight l (r := r + 1) (by omega)
    exact ⟨fun h' => absurd h' (P.not_none_le hr), fun h' => by omega⟩

/-- Slot `u` of lane `l` once the first `r` wanted rows are gone. -/
def cur (d : ℕ → EReal) (π : ℕ → ℕ) (l r u : ℕ) : Cell := ext d l (u + seen π 128 l r)

/-- No front is below the `r`-th wanted row. -/
theorem front_ge {l r : ℕ} (hl : l < 128) (hr : r < 64) : rk d (π r) ≤ key (cur d π l r 0) := by
  unfold cur
  rw [Nat.zero_add]
  by_contra hc
  rw [not_le] at hc
  have hk := hc.le
  rcases ext_tag hl (seen π 128 l r) with e | ⟨n, hn, hnl, e⟩
  · rw [e] at hk; exact P.not_none_le hr hk
  · rw [e, key_cell d hn] at hk hc
    obtain ⟨s, hs, e'⟩ := (P.le_iff hr).mp hk
    have hsr : s < r := by
      rcases Nat.lt_or_eq_of_le hs with h | h
      · exact h
      · rw [e', h] at hc; exact absurd hc (lt_irrefl _)
    have h1 : Below (rk d (π s)) (ext d l (seen π 128 l r)) := by unfold Below; rw [e, key_cell d hn, e']
    have h2 := (P.ext_key hl (by omega) _).mp h1
    have h3 := seen_mono π 128 l (show s + 1 ≤ r by omega)
    omega

/-- The front of lane `l` is the `r`-th wanted row exactly when that row is the lane's. -/
theorem front_eq {l r : ℕ} (hl : l < 128) (hr : r < 64) :
    cur d π l r 0 = cell d (π r) ↔ π r % 128 = l := by
  have hpr := P.lt r hr
  constructor
  · intro h
    unfold cur at h
    rcases ext_tag hl (0 + seen π 128 l r) with e | ⟨n, hn, hnl, e⟩
    · rw [e] at h
      have : d (π r) = ⊤ := (congrArg Prod.fst h).symm
      exact absurd this (P.fin r hr).ne
    · rw [e] at h
      have h2 : BitVec.ofNat 32 n = BitVec.ofNat 32 (π r) := congrArg Prod.snd h
      have h3 := congrArg BitVec.toNat h2
      rw [BitVec.toNat_ofNat, BitVec.toNat_ofNat, Nat.mod_eq_of_lt (by omega), Nat.mod_eq_of_lt (by omega)] at h3
      rw [← h3]; exact hnl
  · intro h
    apply key_injective
    refine le_antisymm ?_ ?_
    · rw [key_cell d (by omega)]
      unfold cur
      refine (P.ext_key hl hr _).mpr ?_
      rw [seen_succ, if_pos h]
      omega
    · rw [key_cell d (by omega)]; exact P.front_ge hl hr

omit P in
/-- Taking the `r`-th pick moves its own lane up by one slot and leaves the others. -/
theorem cur_succ (l r u : ℕ) :
    cur d π l (r + 1) u = if π r % 128 = l then cur d π l r (u + 1) else cur d π l r u := by
  unfold cur
  rw [seen_succ]
  split
  · congr 1; omega
  · rfl

/-- From the ninth slot on a lane is blank. -/
theorem cur_last {l r u : ℕ} (hu : 8 ≤ u) : cur d π l r u = blank := by
  unfold cur ext
  rw [List.getD_eq_default _ _ (by rw [length_lane]; omega)]

omit P in
/-- Before anything is taken a lane holds its slots. -/
theorem cur_zero (l u : ℕ) : cur d π l 0 u = ext d l u := by
  unfold cur seen; simp

/-- No front's value is below the `r`-th wanted distance. -/
theorem front_val {l r : ℕ} (hl : l < 128) (hr : r < 64) : d (π r) ≤ (cur d π l r 0).1 := by
  have h := P.front_ge hl hr
  unfold rk key at h
  rw [Prod.Lex.toLex_le_toLex] at h
  dsimp only at h
  rcases h with h | h
  · exact h.le
  · exact h.1.le

/-- A front whose value is the `r`-th wanted distance has at least that row's number. -/
theorem front_idx {l r : ℕ} (hl : l < 128) (hr : r < 64) (h : (cur d π l r 0).1 = d (π r)) :
    (π r : ℤ) ≤ (cur d π l r 0).2.toInt := by
  have h' := P.front_ge hl hr
  unfold rk key at h'
  rw [Prod.Lex.toLex_le_toLex] at h'
  dsimp only at h'
  rcases h' with h' | h'
  · exact absurd h.symm h'.ne
  · exact h'.2

end Picks

end Cert.Knn
-- ==== Proof.Select.lean ====
/-
  The selection kernel at one index of its vectors, over the extended reals: what the loop carries there are the two
  runs of the lane's two bins, and what the network stores are the two runs merged.
-/
module

public import proofs.«01_k».proof.Proof.Chain
public import proofs.«01_k».proof.Proof.Picks
public import Idealize.ShloMosaic.Lib.ValueIdx
public import Idealize.ShloMosaic.Lib.Affine
public import Idealize.ShloMosaic.Lib.Pointwise.Select
public import Idealize.ShloMosaic.Lib.Pipeline.Value
public import Idealize.ShloMosaic.Lib.Pipeline.ValueKit.Tiles

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

/-- The bit pattern of infinity. -/
theorem ofBits_inf : Ideal.ofBits .f32 0x7F800000#32 = ⊤ := by
  simp [Ideal.ofBits, Ideal.ieee]

/-- The five slots of a slot set at one index. -/
def cells (s : Slots Ideal) (y : S8x128.Idx) : List Cell :=
  [(s.1 y, s.2.2.2.2.2.1 y), (s.2.1 y, s.2.2.2.2.2.2.1 y), (s.2.2.1 y, s.2.2.2.2.2.2.2.1 y),
   (s.2.2.2.1 y, s.2.2.2.2.2.2.2.2.1 y), (s.2.2.2.2.1 y, s.2.2.2.2.2.2.2.2.2 y)]

/-- Element by element, what a slot keeps is the nearer pair. -/
theorem push_keep (m x : VF Ideal) (mi xi : VI) (y : S8x128.Idx) :
    (pushMin m x y, keepIdx m x mi xi y) = keep (m y, mi y) (x y, xi y) := by
  unfold pushMin keepIdx keep
  rw [ValueIdx.minimumf_apply]
  show (min (m y) (x y), Scalar.select (Ideal.cmp .olt (x y) (m y)) (xi y) (mi y)) = _
  unfold Scalar.select
  simp only [Ideal.cmp_olt_eq_one]
  by_cases h : x y < m y
  · simp only [if_pos h, min_eq_right h.le]
  · simp only [if_neg h, min_eq_left (le_of_not_gt h)]

/-- Element by element, what it passes on is the farther pair. -/
theorem push_drop (m x : VF Ideal) (mi xi : VI) (y : S8x128.Idx) :
    (pushMax m x y, dropIdx m x mi xi y) = drop (m y, mi y) (x y, xi y) := by
  unfold pushMax dropIdx drop
  rw [ValueIdx.maximumf_apply]
  show (max (m y) (x y), Scalar.select (Ideal.cmp .olt (x y) (m y)) (mi y) (xi y)) = _
  unfold Scalar.select
  simp only [Ideal.cmp_olt_eq_one]
  by_cases h : x y < m y
  · simp only [if_pos h, max_eq_left h.le]
  · simp only [if_neg h, max_eq_right (le_of_not_gt h)]

/-- A push, at one index, is the push of one slot through five. -/
theorem cells_insert5 (s : Slots Ideal) (x : VF Ideal) (xi : VI) (y : S8x128.Idx) :
    cells (insert5 s x xi) y = insL (cells s y) (x y, xi y) := by
  obtain ⟨a, b, c, d, e, ai, bi, ci, di, ei⟩ := s
  unfold insert5 cells
  simp only [push_keep, push_drop, insL, ← push_keep, ← push_drop]

/-- The slot that step `t` of the whole loop pushes at one index: column `128 t + l` of the block's row. -/
def colCell (x0 : Vec Ideal S8x100352 .f32) (y : S8x128.Idx) (t : ℕ) : Cell :=
  if h : 128 * t + (y 1).val < 100352 then
    (x0 (ix2 (⟨(y 0).val, (y 0).isLt⟩ : Fin 8) (⟨128 * t + (y 1).val, h⟩ : Fin 100352)), BitVec.ofNat 32 (128 * t + (y 1).val))
  else blank

/-- The column that step `r` of trip `k` reads from. -/
theorem off1_val : ∀ (k : Fin k1_t1_loop.trips) (r : Fin 98),
    k1_off1 k (BitVec.ofNat 32 r.val) 1 = 128 * (98 * k.val + r.val) := by decide +kernel

/-- It reads from the block's first row on. -/
theorem off1_zero (k : Fin k1_t1_loop.trips) (r : Fin 98) : k1_off1 k (BitVec.ofNat 32 r.val) 0 = 0 := rfl

/-- The row number that step `r` of trip `k` begins with. -/
theorem row_word : ∀ (k : Fin k1_t1_loop.trips) (r : Fin 98),
    Scalar.muli (Scalar.addi (Scalar.muli (Scalar.muli (Scf.iv 0#32 1#32 k) 2#32) 49#32) (BitVec.ofNat 32 r.val)) 128#32
      = BitVec.ofNat 32 (128 * (98 * k.val + r.val)) := by decide +kernel

/-- There are 784 steps in all. -/
theorem step_lt (k : Fin k1_t1_loop.trips) (r : Fin 98) : 98 * k.val + r.val < 784 := by
  have : k.val < 8 := k.isLt
  have := r.isLt
  omega

section loop

variable (c : Dev nD) (i : grid1.Coords)
  (arg1 : Memref sig .tc .vmem S8x100352 .f32) (harg1 : arg1.IsWhole)
  (arg2 : Memref sig .tc .vmem S8x1024 .f32) (harg2 : arg2.IsWhole)
  (arg3 : Memref sig .tc .vmem S8x1024 .i32) (harg3 : arg3.IsWhole) (x0 : Vec Ideal S8x100352 .f32)

/-- A step reads, in every lane, the pair of that step's row. -/
theorem loadAt_cell (y : S8x128.Idx) (k : Fin k1_t1_loop.trips) (r : Fin 98) :
    (loadAt arg1 (harg1.unread x0) k r y, rowAt (iota .tc S8x128 32 [1] iota_S8x128_d1_w32) k r y)
      = colCell x0 y (98 * k.val + r.val) := by
  have hl : (y 1).val < 128 := (y 1).isLt
  have ht := step_lt k r
  unfold colCell
  rw [dif_pos (by omega)]
  refine Prod.ext ?_ ?_
  · unfold loadAt
    have hc : ∀ v : FVec Ideal S8x128 .f32, shapeCast S8x128 v shapeCasts_S8x128_S8x128 = v := fun v => shapeCast_self v _
    have h2 := hc (View.readAt (Elt Ideal) arg1.view
      (Rect.unit (s := S8x100352) (k1_off1 k (BitVec.ofNat 32 r.val)) S8x128.size (k1_off1_inb k r)).toLoadRect (harg1.unread x0))
    refine (congrFun h2 y).trans ?_
    rw [View.readAt_eq_ld, harg1.read_unread]
    refine View.ld_unit_apply_of x0 _ _ _ y _ fun a => ?_
    fin_cases a
    · exact (Nat.zero_add _).symm
    · exact congrArg (· + (y 1).val) (off1_val k r).symm
  · unfold rowAt
    rw [row_word]
    show IntOp.addi (iota .tc S8x128 32 [1] iota_S8x128_d1_w32 y) (BitVec.ofNat 32 (128 * (98 * k.val + r.val))) = _
    rw [iota_single_apply]
    show BitVec.ofNat 32 (y 1).val + BitVec.ofNat 32 (128 * (98 * k.val + r.val)) = _
    rw [← BitVec.ofNat_add, Nat.add_comm]

/-- The chain of a trip at one index carries the run of parity `p` on by as many steps. -/
theorem cells_chain (y : S8x128.Idx) (k : Fin k1_t1_loop.trips) (s0 : Slots Ideal) (p : ℕ) (hp : p < 2) (n : ℕ) (hn : n ≤ 49)
    (h : cells s0 y = run (fun j => colCell x0 y (2 * j + p)) (49 * k.val)) :
    cells (chain arg1 (iota .tc S8x128 32 [1] iota_S8x128_d1_w32) (harg1.unread x0) k s0 p n) y =
      run (fun j => colCell x0 y (2 * j + p)) (49 * k.val + n) := by
  induction n with
  | zero => exact h
  | succ n ih =>
    rw [chain, cells_insert5, ih (by omega), loadAt_cell]
    have e : 98 * k.val + (Fin.ofNat 98 (2 * n + p)).val = 2 * (49 * k.val + n) + p := by
      simp only [Fin.ofNat]
      rw [Nat.mod_eq_of_lt (by omega)]; omega
    rw [e]
    rfl

/-- Before trip `K` the loop carries, at one index, the two runs of the lane's two bins. -/
theorem st_cells (K : ℕ) (hK : K ≤ 8) : ∃ s t : Slots Ideal,
    st_k1_t1 (F := Ideal) Variants.none c none i arg1 harg1 arg2 harg2 arg3 harg3
      (iota .tc S8x128 32 [1] iota_S8x128_d1_w32) (harg1.unread x0) (both slots0 slots0) K = both s t ∧
    ∀ y, cells s y = run (fun j => colCell x0 y (2 * j + 0)) (49 * K) ∧
      cells t y = run (fun j => colCell x0 y (2 * j + 1)) (49 * K) := by
  induction K with
  | zero =>
    refine ⟨slots0, slots0, rfl, fun y => ?_⟩
    have h0 : cells slots0 y = List.replicate 5 blank := by
      unfold cells slots0 k1_pay2257 k1_pay2258 blank
      have e : (broadcast S8x128 (Scalar.ofBits (F := Ideal) .f32 0x7F800000#32) : VF Ideal) y = ⊤ := ofBits_inf
      simp only [e]
      rfl
    exact ⟨h0, h0⟩
  | succ K ih =>
    obtain ⟨s, t, h, hst⟩ := ih (by omega)
    have hk : K < k1_t1_loop.trips := by show K < 8; omega
    refine ⟨_, _, (st_k1_t1_succ (F := Ideal) Variants.none c none i arg1 harg1 arg2 harg2 arg3 harg3
      (iota .tc S8x128 32 [1] iota_S8x128_d1_w32) (harg1.unread x0) (both slots0 slots0) ⟨K, hk⟩).trans
      ((congrArg _ h).trans (trip_eq _ _ _ _ _ _ _ _ _ _ _ _ _ _ _)), fun y => ⟨?_, ?_⟩⟩
    · exact cells_chain arg1 harg1 x0 y ⟨K, hk⟩ s 0 (by omega) 49 (by omega) (hst y).1
    · exact cells_chain arg1 harg1 x0 y ⟨K, hk⟩ t 1 (by omega) 49 (by omega) (hst y).2

end loop

/-! ## The network at one index -/

/-- A pair of vectors at one index. -/
def at_ (u : VF Ideal × VI) (y : S8x128.Idx) : Cell := (u.1 y, u.2 y)

/-- Two places change over exactly when the second's rank is less. -/
theorem swapV_iff (u w : VF Ideal × VI) (y : S8x128.Idx) : swapV u w y = 1 ↔ key (at_ w y) < key (at_ u y) := by
  rw [key_lt_iff]
  show (BitVec.ofBool (decide (w.1 y < u.1 y)) ||| (BitVec.ofBool (decide (w.1 y = u.1 y)) &&&
    BitVec.ofBool (decide ((w.2 y).toInt < (u.2 y).toInt)))) = 1 ↔ _
  unfold at_
  by_cases h1 : w.1 y < u.1 y <;> by_cases h2 : w.1 y = u.1 y <;> by_cases h3 : (w.2 y).toInt < (u.2 y).toInt <;>
    simp [h1, h2, h3]

/-- Element by element the first place gets the lesser pair. -/
theorem loV_at (u w : VF Ideal × VI) (y : S8x128.Idx) : at_ (loV u w) y = lo (at_ u y) (at_ w y) := by
  unfold loV lo
  show (Scalar.select (swapV u w y) (w.1 y) (u.1 y), Scalar.select (swapV u w y) (w.2 y) (u.2 y)) = _
  unfold Scalar.select
  simp only [swapV_iff]
  split <;> rfl

/-- Element by element the second place gets the greater pair. -/
theorem hiV_at (u w : VF Ideal × VI) (y : S8x128.Idx) : at_ (hiV u w) y = hi (at_ u y) (at_ w y) := by
  unfold hiV hi
  show (Scalar.select (swapV u w y) (u.1 y) (w.1 y), Scalar.select (swapV u w y) (u.2 y) (w.2 y)) = _
  unfold Scalar.select
  simp only [swapV_iff]
  split <;> rfl

/-- The merged vectors at one index are the two runs merged. -/
theorem netV_at (s t : Slots Ideal) (y : S8x128.Idx) (u : Fin 8) :
    at_ (netV s t u) y = (net (cells s y) (cells t y)).getD u.val blank := by
  fin_cases u <;> · simp only [netV, loV_at, hiV_at]; rfl

end Cert.Knn
-- ==== Proof.Pre.lean ====
/-
  Reading the precondition.
-/
module

public import proofs.«01_k».proof.Defs
public import proofs.«01_k».proof.Proof.Select
public import Idealize.ShloMosaic.Lib.Pointwise
public import Idealize.ShloMosaic.Lib.IndicatorCount

@[expose] public section
set_option maxRecDepth 100000
set_option maxHeartbeats 1000000

noncomputable section

namespace Cert.Knn

open Cert.Pre_spread
open Idealize.ShloMosaic Idealize.ShloMosaic.TcCoe Idealize.ShloMosaic.Tactic

variable [Cert.Pre_spread.Facts] (x0 : FVec Ideal S100000x128 .f32) (D : FVec Ideal S4096x100000 .f32) (V : FVec Ideal S4096x64 .f32) (I : IVec S4096x64 32)

omit x0 D V I in
/-- An extended real whose absolute value is below `⊤` is a real. -/
theorem real_of_abs (x : EReal) (h : BitVec.ofBool (decide ((FloatOps.absf (F := Ideal) (φ := .f32) x : EReal) < ⊤)) = 1#1) : ∃ r : ℝ, x = r := by
  have h : (FloatOps.absf (F := Ideal) (φ := .f32) x : EReal) < ⊤ := by
    by_contra k
    simp [k] at h
  induction x with
  | bot => exact absurd h (by simp [FloatOps.absf])
  | top => exact absurd h (by simp [FloatOps.absf])
  | coe r => exact ⟨r, rfl⟩

/-- The first conjunct: the rows are real. -/
theorem read1 (h : (fn_part1 x0 D V I).1 = fun _ => 1#1) (i) : ∃ r : ℝ, x0 i = r := by
  have := congrFun h i
  unfold fn_part1 fn_part2 fn_part3 at this
  pointwise at this
  rw [ofBits_inf] at this
  exact real_of_abs _ this

omit x0 D V I in
/-- A count compared with a small bound. -/
theorem count_le {n : ℕ} (p : Fin n → BitVec 1) (b : ℕ) (hn : n < 2 ^ 31) (hb : b < 2 ^ 31)
    (h : IntOp.cmpi CmpIPredicate.sle (Finset.univ.fold IntOp.addi 0#32 fun x => (p x).setWidth 32) (BitVec.ofNat 32 b) = 1#1) :
    (Finset.univ.filter fun x => p x = 1#1).card ≤ b := by
  rw [IndicatorCount.fold_addi_setWidth_eq_card] at h
  have hc : (Finset.univ.filter fun x => p x = 1#1).card ≤ n := (Finset.card_le_univ _).trans (by simp)
  have h1 := toInt_ofNat_small (n := (Finset.univ.filter fun x => p x = 1#1).card) (by omega)
  have h2 := toInt_ofNat_small (n := b) hb
  have h : BitVec.ofBool ((BitVec.ofNat 32 (Finset.univ.filter fun x => p x = 1#1).card).sle (BitVec.ofNat 32 b)) = 1#1 := h
  rw [BitVec.sle_eq_decide, h1, h2] at h
  by_contra k
  have : ¬ (((Finset.univ.filter fun x => p x = 1#1).card : ℤ) ≤ (b : ℤ)) := by exact_mod_cast k
  simp [this] at h

omit x0 D V I in
/-- A truth value's bit is set exactly when it is true. -/
theorem eq_one (c : Bool) : BitVec.ofBool c = 1#1 ↔ c = true := by cases c <;> simp

omit x0 D V I in
/-- Masking a row number by `2 ^ e - 1` is its remainder by `2 ^ e`. -/
theorem mask (n e : ℕ) (he : e < 32) (hn : n < 100000) :
    (IntOp.andi (BitVec.ofNat 32 n) (BitVec.ofNat 32 (2 ^ e - 1))).toNat = n % 2 ^ e := by
  have h1 : 2 ^ e - 1 < 2 ^ 32 := lt_of_le_of_lt (Nat.sub_le _ _) (Nat.pow_lt_pow_right (by omega) he)
  unfold IntOp.andi
  rw [BitVec.toNat_and, BitVec.toNat_ofNat, BitVec.toNat_ofNat, Nat.mod_eq_of_lt h1, Nat.mod_eq_of_lt (by omega : n < 2 ^ 32),
    Nat.and_two_pow_sub_one_eq_mod]

omit x0 D V I in
/-- Two row numbers masked to their low `e` bits agree exactly when they agree modulo `2 ^ e`. -/
theorem mask_eq (n k e : ℕ) (he : e < 32) (hn : n < 100000) (hk : k < 100000) :
    IntOp.cmpi CmpIPredicate.eq (IntOp.andi (BitVec.ofNat 32 n) (BitVec.ofNat 32 (2 ^ e - 1))) (IntOp.andi (BitVec.ofNat 32 k) (BitVec.ofNat 32 (2 ^ e - 1))) = 1#1
      ↔ n % 2 ^ e = k % 2 ^ e := by
  show BitVec.ofBool (_ == _) = 1#1 ↔ _
  rw [eq_one, beq_iff_eq, ← BitVec.toNat_inj, mask n e he hn, mask k e he hk]

omit x0 D V I in
/-- Masked by 255 two row numbers agree exactly when they are of one bin. -/
theorem same_bin (n k : ℕ) (hn : n < 100000) (hk : k < 100000) :
    IntOp.cmpi CmpIPredicate.eq (IntOp.andi (BitVec.ofNat 32 n) 255#32) (IntOp.andi (BitVec.ofNat 32 k) 255#32) = 1#1
      ↔ n % 256 = k % 256 := mask_eq n k 8 (by omega) hn hk

omit x0 D V I in
/-- Masked by 127 two row numbers agree exactly when they are of one lane. -/
theorem same_lane (n k : ℕ) (hn : n < 100000) (hk : k < 100000) :
    IntOp.cmpi CmpIPredicate.eq (IntOp.andi (BitVec.ofNat 32 n) 127#32) (IntOp.andi (BitVec.ofNat 32 k) 127#32) = 1#1
      ↔ n % 128 = k % 128 := mask_eq n k 7 (by omega) hn hk

variable (p : Fin 4096 → Fin 64 → ℕ) (hp : ∀ q a, p q a < 100000) (hI : ∀ q a, I (ix2 q a) = BitVec.ofNat 32 (p q a))
include hp hI

/-- The second conjunct: at most five of a query's picks lie in one bin of 256. -/
theorem read2 (h : (fn_part1 x0 D V I).2.1 = fun _ => 1#1) (q : Fin 4096) (a : Fin 64) :
    (Finset.univ.filter fun x : Fin 64 => p q a % 256 = p q x % 256).card ≤ 5 := by
  have := congrFun h (ix2 q a)
  unfold fn_part1 fn_part2 fn_part3 at this
  pointwise at this
  refine le_trans (Finset.card_le_card fun x hx => ?_) (count_le _ 5 (by omega) (by omega) this)
  simp only [Finset.mem_filter, Finset.mem_univ, true_and] at hx ⊢
  rw [hI, hI]
  exact (same_bin _ _ (hp _ _) (hp _ _)).mpr hx

/-- The third conjunct: at most eight of a query's picks lie in one lane of 128. -/
theorem read3 (h : (fn_part1 x0 D V I).2.2.1 = fun _ => 1#1) (q : Fin 4096) (a : Fin 64) :
    (Finset.univ.filter fun x : Fin 64 => p q a % 128 = p q x % 128).card ≤ 8 := by
  have := congrFun h (ix2 q a)
  unfold fn_part1 fn_part2 fn_part3 at this
  pointwise at this
  refine le_trans (Finset.card_le_card fun x hx => ?_) (count_le _ 8 (by omega) (by omega) this)
  simp only [Finset.mem_filter, Finset.mem_univ, true_and] at hx ⊢
  rw [hI, hI]
  exact (same_lane _ _ (hp _ _) (hp _ _)).mpr hx

/-- The fourth conjunct: two picks of one bin at one distance are the same row. -/
theorem read4 (h : (fn_part1 x0 D V I).2.2.2.1 = fun _ => 1#1) (q : Fin 4096) (a b : Fin 64)
    (hab : p q a % 256 = p q b % 256) (hv : V (ix2 q a) = V (ix2 q b)) : p q a = p q b := by
  have := congrFun h (ix3 q a b)
  unfold fn_part1 fn_part2 fn_part3 at this
  pointwise at this
  have h1 := (same_bin _ _ (hp q a) (hp q b)).mpr hab
  rw [hI, hI, h1] at this
  by_contra k
  have k : BitVec.ofNat 32 (p q a) ≠ BitVec.ofNat 32 (p q b) := fun e => k (by
    have := congrArg BitVec.toNat e
    have ha := hp q a
    have hb := hp q b
    simp only [BitVec.toNat_ofNat] at this
    omega)
  have k : IntOp.cmpi CmpIPredicate.ne (BitVec.ofNat 32 (p q a)) (BitVec.ofNat 32 (p q b)) = 1#1 := by
    show BitVec.ofBool (_ != _) = 1#1
    rw [eq_one, bne_iff_ne]; exact k
  rw [k, decide_eq_true hv] at this
  revert this
  decide

omit hp hI p in
/-- The fifth conjunct: at most one row of a bin lies at the last pick's distance. -/
theorem read5 (h : (fn_part1 x0 D V I).2.2.2.2 = fun _ => 1#1) (q : Fin 4096) (n k : ℕ) (hn : n < 100000) (hk : k < 100000)
    (hm : n % 256 = k % 256) (h1 : -D (ix2 q ⟨n, hn⟩) = V (ix2 q 63)) (h2 : -D (ix2 q ⟨k, hk⟩) = V (ix2 q 63)) : n = k := by
  have := congrFun h (ix2 q (⟨n % 256, Nat.mod_lt _ (by omega)⟩ : Fin 256))
  unfold fn_part1 fn_part2 fn_part3 at this
  pointwise at this
  let w : Fin 391 → BitVec 1 := fun x => if h : x.val * 256 + n % 256 < 100000 then BitVec.ofBool (decide (-D (ix2 q ⟨x.val * 256 + n % 256, h⟩) = V (ix2 q 63))) else 0#1
  have e : (fun x : Fin 391 => if h : x.val * 256 + n % 256 < 100000 then
      BitVec.setWidth 32 (BitVec.ofBool (decide (-D (ix2 q ⟨x.val * 256 + n % 256, h⟩) = V (ix2 q 63)))) else 0#32) = fun x => (w x).setWidth 32 := by
    funext x
    by_cases hx : x.val * 256 + n % 256 < 100000
    · simp only [w, dif_pos hx]
    · simp only [w, dif_neg hx]; rfl
  have this := count_le w 1 (by omega) (by omega) (by rw [← e]; exact this)
  rw [Finset.card_le_one] at this
  have hw : ∀ (z : ℕ) (hz : z < 100000) (hm : z % 256 = n % 256) (hv : -D (ix2 q ⟨z, hz⟩) = V (ix2 q 63)),
      (⟨z / 256, by omega⟩ : Fin 391) ∈ Finset.univ.filter fun x => w x = 1#1 := fun z hz hm hv => by
    have hzz : z / 256 * 256 + n % 256 = z := by omega
    simp only [Finset.mem_filter, Finset.mem_univ, true_and, w, hzz, dif_pos hz, hv, decide_true]
    rfl
  have := this _ (hw n hn rfl h1) _ (hw k hk hm.symm h2)
  have := congrArg Fin.val this
  simp only at this
  omega

end Cert.Knn
-- ==== Proof.Sort.lean ====
/-
  What a stable sort leaves: positions ordered by key, and by position among equal keys.
-/
module

public import Idealize.ShloMosaic.Lib.SortFacts
public import Mathlib.Data.EReal.Basic
public import Mathlib.Order.Fin.Basic
public import Mathlib.Data.List.FinRange

@[expose] public section

namespace Cert.Knn

open Idealize.ShloMosaic

/-- Position `a` comes first: its key is smaller, or the keys are equal and it is the smaller position. -/
def First {n : ℕ} (f : Fin n → EReal) (a b : Fin n) : Prop := f a < f b ∨ (f a = f b ∧ a < b)

/-- The order is transitive. -/
theorem First.trans {n : ℕ} {f : Fin n → EReal} {a b c : Fin n} (h : First f a b) (k : First f b c) : First f a c := by
  rcases h with h | ⟨h, h'⟩ <;> rcases k with k | ⟨k, k'⟩
  · exact .inl (h.trans k)
  · exact .inl (k ▸ h)
  · exact .inl (h ▸ k)
  · exact .inr ⟨h.trans k, h'.trans k'⟩

/-- And total. -/
theorem first_total {n : ℕ} (f : Fin n → EReal) (a b : Fin n) : First f a b ∨ a = b ∨ First f b a := by
  unfold First
  rcases lt_trichotomy (f a) (f b) with h | h | h
  · exact .inl (.inl h)
  · rcases lt_trichotomy a b with k | k | k
    · exact .inl (.inr ⟨h, k⟩)
    · exact .inr (.inl k)
    · exact .inr (.inr (.inr ⟨h.symm, k⟩))
  · exact .inr (.inr (.inl h))

section
variable {n : ℕ} (f : Fin n → EReal) (before : Fin n → Fin n → Bool) (hb : ∀ a b, before a b = true ↔ f a < f b)
include hb

/-- Inserting a position smaller than all others keeps the order. -/
theorem first_insert (a : Fin n) (l : List (Fin n)) (ha : ∀ b ∈ l, a < b) (hl : l.Pairwise (First f)) :
    (insertBefore before a l).Pairwise (First f) := by
  induction l with
  | nil => simp [insertBefore]
  | cons b l ih =>
    rw [List.pairwise_cons] at hl
    have hlt : a < b := ha b (by simp)
    unfold insertBefore
    split
    · rename_i h
      have hba : First f b a := .inl ((hb b a).mp h)
      rw [List.pairwise_cons]
      refine ⟨fun c hc => ?_, ih (fun c hc => ha c (by simp [hc])) hl.2⟩
      rcases List.mem_cons.mp ((perm_insertBefore before a l).mem_iff.mp hc) with rfl | hc
      · exact hba
      · exact hl.1 c hc
    · rename_i h
      have hab : First f a b := by
        have h' : ¬ f b < f a := fun k => h ((hb b a).mpr k)
        rcases lt_or_eq_of_le (not_lt.mp h') with k | k
        · exact .inl k
        · exact .inr ⟨k, hlt⟩
      rw [List.pairwise_cons]
      refine ⟨fun c hc => ?_, List.pairwise_cons.mpr hl⟩
      rcases List.mem_cons.mp hc with rfl | hc
      · exact hab
      · exact hab.trans (hl.1 c hc)

/-- A stable sort of increasing positions leaves them in order. -/
theorem first_sort (l : List (Fin n)) (hl : l.Pairwise (· < ·)) : (stableSort before l).Pairwise (First f) := by
  induction l with
  | nil => simp [stableSort]
  | cons a l ih =>
    rw [List.pairwise_cons] at hl
    exact first_insert f before hb a _ (fun b h => hl.1 b ((perm_stableSort before l).mem_iff.mp h)) (ih hl.2)

/-- The sorted positions are in order. -/
theorem first_sorted {r s : Fin n} (h : r < s) : First f (sortedFrom before r) (sortedFrom before s) := by
  have hp : (sortPositions n before).Pairwise (First f) := first_sort f before hb _ (List.pairwise_lt_finRange n)
  unfold sortedFrom
  exact List.pairwise_iff_get.mp hp _ _ (by simpa using h)

/-- A position that is none of the first ones comes after them. -/
theorem first_rest {r : Fin n} (a : Fin n) (h : ∀ s ≤ r, a ≠ sortedFrom before s) : First f (sortedFrom before r) a := by
  obtain ⟨s, rfl⟩ := sortedFrom_surjective before a
  exact first_sorted f before hb (not_le.mp fun k => h s k rfl)

end

end Cert.Knn
-- ==== Proof.SelectBlock.lean ====
/-
  What the selection kernel leaves: a block of eight queries, and from the blocks the whole arrays of values and row
  numbers. Column `128 u + l` of a query's row is slot `u` of the query's lane `l`.
-/
module

public import proofs.«01_k».proof.Proof.Select
public import Idealize.ShloMosaic.Lib.Writes
public import Idealize.ShloMosaic.Lib.Pipeline.ValueKit.Geometry
public import Idealize.ShloMosaic.Lib.Pipeline.ValueKit.Acc

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

/-- A row of an array of distances as a function of the row number searched, infinite past the end. -/
def rowFn {n : ℕ} (X : (⟨2, ![n, 100352]⟩ : Shape).Idx → EReal) (q : Fin n) (k : ℕ) : EReal :=
  if h : k < 100352 then X (ix2 q (⟨k, h⟩ : Fin 100352)) else ⊤

/-- The pair at a step and a lane is that of the row whose number they make up. -/
theorem colCell_eq (x0 : Vec Ideal S8x100352 .f32) (y : S8x128.Idx) (t : ℕ) (ht : t < 784) :
    colCell x0 y t = cell (rowFn (n := 8) x0 (y 0)) (128 * t + (y 1).val) := by
  have hl : (y 1).val < 128 := (y 1).isLt
  unfold colCell cell rowFn
  have h : 128 * t + (y 1).val < 100352 := by omega
  rw [dif_pos h, dif_pos h]
  rfl

/-- A run depends only on what came by. -/
theorem run_congr {x x' : ℕ → Cell} {J : ℕ} (h : ∀ j < J, x j = x' j) : run x J = run x' J := by
  induction J with
  | zero => rfl
  | succ J ih => rw [run, run, ih (fun j hj => h j (by omega)), h J (by omega)]

/-- The merged runs at one index are the query's lane. -/
theorem net_lane (x0 : Vec Ideal S8x100352 .f32) (y : S8x128.Idx) :
    net (run (fun j => colCell x0 y (2 * j + 0)) 392) (run (fun j => colCell x0 y (2 * j + 1)) 392) =
      Picks.lane (rowFn (n := 8) x0 (y 0)) (y 1).val := by
  rw [Picks.lane, Picks.binRun, Picks.binRun]
  rw [run_congr (x := fun j => colCell x0 y (2 * j + 0))
      (x' := fun j => cell (rowFn (n := 8) x0 (y 0)) (256 * j + (y 1).val)) (J := 392) fun j hj => by
        rw [colCell_eq _ _ _ (by omega), show 128 * (2 * j + 0) + (y 1).val = 256 * j + (y 1).val by omega],
    run_congr (x := fun j => colCell x0 y (2 * j + 1))
      (x' := fun j => cell (rowFn (n := 8) x0 (y 0)) (256 * j + ((y 1).val + 128))) (J := 392) fun j hj => by
        rw [colCell_eq _ _ _ (by omega), show 128 * (2 * j + 1) + (y 1).val = 256 * j + ((y 1).val + 128) by omega]]

/-- What a query's row holds in column `m`. -/
def slotAt {n : ℕ} (X : (⟨2, ![n, 100352]⟩ : Shape).Idx → EReal) (q : Fin n) (m : ℕ) : Cell :=
  Picks.ext (rowFn X q) (m % 128) (m / 128)

section block

variable (c : Dev nD) (i : grid1.Coords)
  (arg1 : Memref sig .tc .vmem S8x100352 .f32) (harg1 : arg1.IsWhole)
  (arg2 : Memref sig .tc .vmem S8x1024 .f32) (harg2 : arg2.IsWhole)
  (arg3 : Memref sig .tc .vmem S8x1024 .i32) (harg3 : arg3.IsWhole) (x0 : Vec Ideal S8x100352 .f32)

/-- After the loop the network's first eight places hold the slots of every lane. -/
theorem behind_cells : ∃ s t : Slots Ideal, behind c i arg1 harg1 arg2 harg2 arg3 harg3 x0 = both s t ∧
    ∀ (u : Fin 8) (y : S8x128.Idx), at_ (netV s t u) y = Picks.ext (rowFn (n := 8) x0 (y 0)) (y 1).val u.val := by
  obtain ⟨s, t, h, hst⟩ := st_cells c i arg1 harg1 arg2 harg2 arg3 harg3 x0 8 le_rfl
  refine ⟨s, t, h, fun u y => ?_⟩
  rw [netV_at, (hst y).1, (hst y).2, net_lane]
  rfl

omit c i arg1 harg1 arg2 harg2 arg3 harg3 in
/-- The `u`-th place of the network holds what belongs in the block's columns `128 u` to `128 u + 127`. -/
theorem piece (s t : Slots Ideal)
    (hu : ∀ (u : Fin 8) (y : S8x128.Idx),
      at_ (netV s t u) y = Picks.ext (rowFn (n := 8) x0 (y 0)) (y 1).val u.val)
    (u : Fin 8) (x : S8x128.Idx) (j : S8x1024.Idx) (h0 : (j 0).val = (x 0).val)
    (h1 : (j 1).val = 128 * u.val + (x 1).val) :
    at_ (netV s t u) x = slotAt (n := 8) x0 (j 0) (j 1).val := by
  have hl : (x 1).val < 128 := (x 1).isLt
  have e : (j 0 : Fin 8) = x 0 := Fin.ext h0
  unfold slotAt
  rw [hu, e, h1, show (128 * u.val + (x 1).val) % 128 = (x 1).val by omega,
    show (128 * u.val + (x 1).val) / 128 = u.val by omega]

omit c i arg1 harg1 arg2 harg2 arg3 harg3 in
/-- The same, at the columns of the rectangle that the `u`-th store writes. -/
theorem placed (s t : Slots Ideal)
    (hu : ∀ (u : Fin 8) (y : S8x128.Idx),
      at_ (netV s t u) y = Picks.ext (rowFn (n := 8) x0 (y 0)) (y 1).val u.val)
    (u : Fin 8) (off : ℕ) (ho : off = 128 * u.val) (inb : ∀ a, (![0, off] : Fin 2 → ℕ) a + (![8, 128] : Fin 2 → ℕ) a ≤ S8x1024.size a)
    (x : S8x128.Idx) :
    at_ (netV s t u) x =
      slotAt (n := 8) x0 ((Rect.unit (s := S8x1024) ![0, off] ![8, 128] inb).emb x 0)
        ((Rect.unit (s := S8x1024) ![0, off] ![8, 128] inb).emb x 1).val := by
  refine piece x0 s t hu u x ((Rect.unit (s := S8x1024) ![0, off] ![8, 128] inb).emb x) ?_ ?_
  · exact (ValueKit.rect_emb_unit_val _ _ _ _ _).trans (Nat.zero_add _)
  · subst ho
    exact ValueKit.rect_emb_unit_val _ _ _ _ _

/-- A step's block of the first result holds the distances of the slots. -/
theorem out1_1 (j : S8x1024.Idx) :
    out1_A_1 c i arg1 harg1 arg2 harg2 arg3 harg3 x0 j = (slotAt (n := 8) x0 (j 0) (j 1).val).1 := by
  obtain ⟨s, t, h, hu⟩ := behind_cells c i arg1 harg1 arg2 harg2 arg3 harg3 x0
  unfold out1_A_1
  have hc := cover1_A_1 c i arg1 harg1 arg2 harg2 arg3 harg3 x0 j
  rw [pieces1_1 c i arg1 harg1 arg2 harg2 arg3 harg3 x0 s t h] at hc ⊢
  refine View.read_writes_apply_of_pieces _ _ (fun j : S8x1024.Idx => (slotAt (n := 8) x0 (j 0) (j 1).val).1) _ ?_ j hc
  intro p hp x
  simp only [List.mem_cons, List.not_mem_nil, or_false] at hp
  rcases hp with rfl | rfl | rfl | rfl | rfl | rfl | rfl | rfl
  · exact congrArg Prod.fst (placed x0 s t hu 7 896 rfl inb_S8x1024_S8x128_0_896 x)
  · exact congrArg Prod.fst (placed x0 s t hu 6 768 rfl inb_S8x1024_S8x128_0_768 x)
  · exact congrArg Prod.fst (placed x0 s t hu 5 640 rfl inb_S8x1024_S8x128_0_640 x)
  · exact congrArg Prod.fst (placed x0 s t hu 4 512 rfl inb_S8x1024_S8x128_0_512 x)
  · exact congrArg Prod.fst (placed x0 s t hu 3 384 rfl inb_S8x1024_S8x128_0_384 x)
  · exact congrArg Prod.fst (placed x0 s t hu 2 256 rfl inb_S8x1024_S8x128_0_256 x)
  · exact congrArg Prod.fst (placed x0 s t hu 1 128 rfl inb_S8x1024_S8x128_0_128 x)
  · exact congrArg Prod.fst (placed x0 s t hu 0 0 rfl inb_S8x1024_S8x128_0_0 x)

/-- A step's block of the second result holds their row numbers. -/
theorem out1_2 (j : S8x1024.Idx) :
    out1_A_2 c i arg1 harg1 arg2 harg2 arg3 harg3 x0 j = (slotAt (n := 8) x0 (j 0) (j 1).val).2 := by
  obtain ⟨s, t, h, hu⟩ := behind_cells c i arg1 harg1 arg2 harg2 arg3 harg3 x0
  unfold out1_A_2
  have hc := cover1_A_2 c i arg1 harg1 arg2 harg2 arg3 harg3 x0 j
  rw [pieces1_2 c i arg1 harg1 arg2 harg2 arg3 harg3 x0 s t h] at hc ⊢
  refine View.read_writes_apply_of_pieces _ _ (fun j : S8x1024.Idx => (slotAt (n := 8) x0 (j 0) (j 1).val).2) _ ?_ j hc
  intro p hp x
  simp only [List.mem_cons, List.not_mem_nil, or_false] at hp
  rcases hp with rfl | rfl | rfl | rfl | rfl | rfl | rfl | rfl
  · exact congrArg Prod.snd (placed x0 s t hu 7 896 rfl inb_S8x1024_S8x128_0_896 x)
  · exact congrArg Prod.snd (placed x0 s t hu 6 768 rfl inb_S8x1024_S8x128_0_768 x)
  · exact congrArg Prod.snd (placed x0 s t hu 5 640 rfl inb_S8x1024_S8x128_0_640 x)
  · exact congrArg Prod.snd (placed x0 s t hu 4 512 rfl inb_S8x1024_S8x128_0_512 x)
  · exact congrArg Prod.snd (placed x0 s t hu 3 384 rfl inb_S8x1024_S8x128_0_384 x)
  · exact congrArg Prod.snd (placed x0 s t hu 2 256 rfl inb_S8x1024_S8x128_0_256 x)
  · exact congrArg Prod.snd (placed x0 s t hu 1 128 rfl inb_S8x1024_S8x128_0_128 x)
  · exact congrArg Prod.snd (placed x0 s t hu 0 0 rfl inb_S8x1024_S8x128_0_0 x)

end block

section arrays

variable (V : (c : Dev nD) → (b : Ref sig .tc) → Buf (Elt Ideal) (c.tc.loc b)) (c : Dev nD)

/-- The values the selection leaves: every column of every query's row, from the row of distances. -/
def selVal (X : Vec Ideal S4096x100352 .f32) : Vec Ideal S4096x1024 .f32 :=
  fun i => (slotAt (n := 4096) X (i 0) (i 1).val).1

/-- The row numbers the selection leaves. -/
def selIdx (X : Vec Ideal S4096x100352 .f32) : Vec Ideal S4096x1024 .i32 :=
  fun i => (slotAt (n := 4096) X (i 0) (i 1).val).2

/-- A step's block of the distances. -/
theorem e1_0 : ∀ t : Fin cfg1.N, win1_0.index t = ![(grid1.coords t 0).val, 0] :=
  (by decide +kernel : ∀ t : Fin grid1.N, _)
/-- A step's block of the selected distances. -/
theorem e1_1 : ∀ t : Fin cfg1.N, win1_1.index t = ![(grid1.coords t 0).val, 0] :=
  (by decide +kernel : ∀ t : Fin grid1.N, _)
/-- A step's block of the selected row numbers. -/
theorem e1_2 : ∀ t : Fin cfg1.N, win1_2.index t = ![(grid1.coords t 0).val, 0] :=
  (by decide +kernel : ∀ t : Fin grid1.N, _)

/-- The block of distances at a grid point is eight rows of the array. -/
theorem iblk1_row (t : Fin cfg1.N) (r : Fin 8) (q : Fin 4096) (hq : q.val = (grid1.coords t 0).val * 8 + r.val) :
    rowFn (n := 8) (iblk1 V c 0 t) r = rowFn (n := 4096) (V c main_v1) q := by
  funext k
  unfold rowFn
  split
  · rename_i hk
    blk_simp [iblk1, e1_0]
    congr 1
    funext a
    apply Fin.ext
    match a with
    | ⟨0, _⟩ => blk_simp [e1_0]; exact hq.symm
    | ⟨1, _⟩ => blk_simp [e1_0]
  · rfl

/-- After the second call the first array holds the distances of every lane's slots. -/
theorem region1_val : (dat1 V c).arrAt 1 cfg1.N = selVal (V c main_v1) := by
  refine (dat1 V c).arrAt_eq_of_covers 1 _ (by decide +kernel) fun t hf y => ?_
  blk_simp
  rw [after1_1]
  unfold outsAt1
  dsimp only
  rw [out1_1]
  unfold selVal slotAt
  have h0 : (((win1_1.blk t).view.emb y) 0).val = (grid1.coords t 0).val * 8 + (y 0).val := by
    blk_simp [e1_1]
  have h1 : (((win1_1.blk t).view.emb y) 1).val = (y 1).val := by
    blk_simp [e1_1]
  rw [iblk1_row V c t (y 0) (((win1_1.blk t).view.emb y) 0) h0]
  dsimp only
  rw [h1]

/-- And the second array their row numbers. -/
theorem region1_idx : (dat1 V c).arrAt 2 cfg1.N = selIdx (V c main_v1) := by
  refine (dat1 V c).arrAt_eq_of_covers 2 _ (by decide +kernel) fun t hf y => ?_
  blk_simp
  rw [after1_2]
  unfold outsAt1
  dsimp only
  rw [out1_2]
  unfold selIdx slotAt
  have h0 : (((win1_2.blk t).view.emb y) 0).val = (grid1.coords t 0).val * 8 + (y 0).val := by
    blk_simp [e1_2]
  have h1 : (((win1_2.blk t).view.emb y) 1).val = (y 1).val := by
    blk_simp [e1_2]
  rw [iblk1_row V c t (y 0) (((win1_2.blk t).view.emb y) 0) h0]
  dsimp only
  rw [h1]

end arrays

end Cert.Knn
-- ==== Proof.Dist.lean ====
/-
  The distance kernel: one block entry is the expanded squared distance of a query and a row, and `⊤` past
  the last row.
-/
module

public import proofs.«01_k».proof.Proof.SelectBlock
public import Idealize.ShloMosaic.Lib.Pointwise

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

/-- The squared distance of two rows, as the programs compute it: both squared norms, less twice the product. -/
def sq {a b : ℕ} (Q : (⟨2, ![a, 128]⟩ : Shape).Idx → EReal) (R : (⟨2, ![b, 128]⟩ : Shape).Idx → EReal) (q : Fin a) (n : Fin b) : EReal :=
  (∑ k : Fin 128, Q (ix2 q k) * Q (ix2 q k)) + (∑ k : Fin 128, R (ix2 n k) * R (ix2 n k))
    - Ideal.ofBits .f32 0x40000000#32 * ∑ k : Fin 128, Q (ix2 q k) * R (ix2 n k)

/-- The squared distance reads only its own two rows. -/
theorem sq_congr {a a' b b' : ℕ} (Q : (⟨2, ![a, 128]⟩ : Shape).Idx → EReal) (R : (⟨2, ![b, 128]⟩ : Shape).Idx → EReal) (q : Fin a) (n : Fin b)
    (Q' : (⟨2, ![a', 128]⟩ : Shape).Idx → EReal) (R' : (⟨2, ![b', 128]⟩ : Shape).Idx → EReal) (q' : Fin a') (n' : Fin b')
    (hq : ∀ k, Q (ix2 q k) = Q' (ix2 q' k)) (hr : ∀ k, R (ix2 n k) = R' (ix2 n' k)) : sq Q R q n = sq Q' R' q' n' := by
  unfold sq
  simp only [hq, hr]

/-- The row-number test of the kernel, as a comparison of naturals. -/
theorem past_last (b r : ℕ) (hb : b < 49) (hr : r < 2048) :
    IntOp.cmpi CmpIPredicate.slt (IntOp.addi (Scalar.muli (BitVec.ofNat 32 b) 2048#32) (BitVec.ofNat 32 r)) 100000#32
      = BitVec.ofBool (decide (b * 2048 + r < 100000)) := by
  have e : IntOp.addi (Scalar.muli (BitVec.ofNat 32 b) 2048#32) (BitVec.ofNat 32 r) = BitVec.ofNat 32 (b * 2048 + r) := by
    apply BitVec.eq_of_toNat_eq
    simp [IntOp.addi, Scalar.muli, IntOp.muli]
  rw [e]
  have h1 := toInt_ofNat_small (n := b * 2048 + r) (by omega)
  have h2 : (100000#32).toInt = 100000 := by decide +kernel
  show BitVec.ofBool ((BitVec.ofNat 32 (b * 2048 + r)).slt 100000#32) = _
  rw [BitVec.slt_eq_decide, h1, h2]
  refine congrArg BitVec.ofBool (decide_eq_decide.mpr ?_)
  generalize b * 2048 + r = z
  exact_mod_cast Iff.rfl

/-- What one block of the first call stores: the squared distance, or `⊤` past the last row. -/
theorem pay1_apply (i : grid0.Coords) (v0 : Vec Ideal S512x128 .f32) (v1 : Vec Ideal S2048x128 .f32) (j : S512x2048.Idx) :
    k0_pay1 i v0 v1 j = if (i 1).val * 2048 + (j 1).val < 100000 then sq (a := 512) (b := 2048) v0 v1 (j 0) (j 1) else ⊤ := by
  unfold sq
  pointwise [k0_pay1]
  rw [past_last _ _ (i 1).isLt (j 1).isLt, ofBits_inf]
  by_cases h : (i 1).val * 2048 + (j 1).val < 100000
  · rw [if_pos h]; simp [h, Scalar.select]
  · rw [if_neg h]; simp [h, Scalar.select]

/-- The block the distance kernel leaves, from the two blocks it reads. -/
theorem out0_apply (i : grid0.Coords) (x0 : Vec Ideal S512x128 .f32) (x1 : Vec Ideal S2048x128 .f32) (j : S512x2048.Idx) :
    out0_2 i x0 x1 j = if (i 1).val * 2048 + (j 1).val < 100000 then sq (a := 512) (b := 2048) x0 x1 (j 0) (j 1) else ⊤ := by
  unfold out0_2
  frame_out
  rw [← pay1_apply]

/-- The array the distance kernel leaves. -/
def distArr (Q : Vec Ideal S4096x128 .f32) (R : Vec Ideal S100352x128 .f32) : Vec Ideal S4096x100352 .f32 :=
  fun i => if (i 1).val < 100000 then sq (a := 4096) (b := 100352) Q R (i 0) (i 1) else ⊤

variable (V : (c : Dev nD) → (b : Ref sig .tc) → Buf (Elt Ideal) (c.tc.loc b)) (c : Dev nD)

/-- A step's block of queries. -/
theorem e0_0 : ∀ t : Fin cfg0.N, win0_0.index t = ![(grid0.coords t 0).val, 0] :=
  (by decide +kernel : ∀ t : Fin grid0.N, _)
/-- A step's block of rows. -/
theorem e0_1 : ∀ t : Fin cfg0.N, win0_1.index t = ![(grid0.coords t 1).val, 0] :=
  (by decide +kernel : ∀ t : Fin grid0.N, _)
/-- A step's block of the result. -/
theorem e0_2 : ∀ t : Fin cfg0.N, win0_2.index t = ![(grid0.coords t 0).val, (grid0.coords t 1).val] :=
  (by decide +kernel : ∀ t : Fin grid0.N, _)

/-- A block of queries holds the array's own entries. -/
theorem iblk0_query (t : Fin cfg0.N) (r : Fin 512) (q : Fin 4096) (hq : q.val = (grid0.coords t 0).val * 512 + r.val) (k : Fin 128) :
    (iblk0 V c 0 t : Vec Ideal S512x128 .f32) (ix2 r k) = (V c main_arg1 : Vec Ideal S4096x128 .f32) (ix2 q k) := by
  blk_simp [iblk0, e0_0]
  congr 1
  funext a
  apply Fin.ext
  match a with
  | ⟨0, _⟩ => blk_simp [e0_0]; exact hq.symm
  | ⟨1, _⟩ => blk_simp [e0_0]

/-- A block of rows holds the array's own entries. -/
theorem iblk0_row (t : Fin cfg0.N) (r : Fin 2048) (n : Fin 100352) (hn : n.val = (grid0.coords t 1).val * 2048 + r.val) (k : Fin 128) :
    (iblk0 V c 1 t : Vec Ideal S2048x128 .f32) (ix2 r k) = (V c main_v0 : Vec Ideal S100352x128 .f32) (ix2 n k) := by
  blk_simp [iblk0, e0_1]
  congr 1
  funext a
  apply Fin.ext
  match a with
  | ⟨0, _⟩ => blk_simp [e0_1]; exact hn.symm
  | ⟨1, _⟩ => blk_simp [e0_1]

/-- After the first call the array holds the distances of every query to every padded row. -/
theorem region0_dist : (dat0 V c).arrAt 2 cfg0.N = distArr (V c main_arg1) (V c main_v0) := by
  refine (dat0 V c).arrAt_eq_of_covers 2 _ (by decide +kernel) fun t hf y => ?_
  blk_simp
  rw [after0_2, out0_apply]
  unfold distArr sq
  have h0 : (((win0_2.blk t).view.emb y) 0).val = (grid0.coords t 0).val * 512 + (y 0).val := by
    blk_simp [e0_2]
  have h1 : (((win0_2.blk t).view.emb y) 1).val = (grid0.coords t 1).val * 2048 + (y 1).val := by
    blk_simp [e0_2]
  dsimp only
  simp only [iblk0_query V c t _ _ h0, iblk0_row V c t _ _ h1, h1]

end Cert.Knn
-- ==== Proof.Real.lean ====
/-
  The squared distance of two real rows is a nonnegative real, so that distances are ordered as squared
  distances are.
-/
module

public import proofs.«01_k».proof.Proof.Dist
public import Mathlib.Tactic.Ring
public import Mathlib.Tactic.Linarith
public import Mathlib.Tactic.Positivity

@[expose] public section
set_option maxRecDepth 100000

noncomputable section

namespace Cert.Knn

open Idealize.ShloMosaic

/-- The literal 2.0 is the number two. -/
theorem ofBits_two : Ideal.ofBits .f32 0x40000000#32 = ((2 : ℝ) : EReal) := by
  simp [Ideal.ofBits, Ideal.ieee, -EReal.coe_mul]; norm_num

/-- A sum of reals is the same in the extended reals. -/
theorem coe_sum (f : Fin 128 → ℝ) : (∑ k, (f k : EReal)) = ((∑ k, f k : ℝ) : EReal) := by
  induction (Finset.univ : Finset (Fin 128)) using Finset.induction_on with
  | empty => simp
  | insert a s ha ih => rw [Finset.sum_insert ha, Finset.sum_insert ha, ih, EReal.coe_add]

/-- Of real rows the squared distance is a nonnegative real. -/
theorem sq_real {a b : ℕ} (Q : (⟨2, ![a, 128]⟩ : Shape).Idx → EReal) (R : (⟨2, ![b, 128]⟩ : Shape).Idx → EReal)
    (q : Fin a) (hQ : ∀ k, ∃ r : ℝ, Q (ix2 q k) = r) (hR : ∀ i, ∃ r : ℝ, R i = r) (n : Fin b) :
    ∃ s : ℝ, 0 ≤ s ∧ sq Q R q n = s := by
  choose f hf using hQ
  choose g hg using hR
  refine ⟨∑ k : Fin 128, (f k - g (ix2 n k)) ^ 2, Finset.sum_nonneg fun k _ => sq_nonneg _, ?_⟩
  unfold sq
  simp only [hf, hg, ofBits_two, ← EReal.coe_mul, coe_sum, ← EReal.coe_add, ← EReal.coe_sub]
  congr 1
  rw [← Finset.sum_add_distrib, Finset.mul_sum, ← Finset.sum_sub_distrib]
  exact Finset.sum_congr rfl fun k _ => by ring

/-- The distance of a squared distance. -/
def root (x : EReal) : EReal := Ideal.sqrt (max x 0)

/-- The distance of a nonnegative real is its square root. -/
theorem root_real (s : ℝ) (hs : 0 ≤ s) : root s = (Real.sqrt s : ℝ) := by
  unfold root
  rw [max_eq_left (by exact_mod_cast hs), Ideal.sqrt_coe, if_neg (not_lt.mpr hs)]

/-- On nonnegative reals distances are in the order of the squared ones. -/
theorem root_lt (x y : EReal) (hx : ∃ s : ℝ, 0 ≤ s ∧ x = s) (hy : ∃ s : ℝ, 0 ≤ s ∧ y = s) : root x < root y ↔ x < y := by
  obtain ⟨s, hs, rfl⟩ := hx
  obtain ⟨t, ht, rfl⟩ := hy
  rw [root_real s hs, root_real t ht, EReal.coe_lt_coe_iff, EReal.coe_lt_coe_iff, Real.sqrt_lt_sqrt_iff hs]

/-- Negated, they are in the reverse order. -/
theorem neg_root_lt (x y : EReal) (hx : ∃ s : ℝ, 0 ≤ s ∧ x = s) (hy : ∃ s : ℝ, 0 ≤ s ∧ y = s) : -root y < -root x ↔ x < y :=
  EReal.neg_lt_neg_iff.trans (root_lt x y hx hy)

/-- A sum of terms none of which is `⊥` is `⊤` as soon as one of them is. -/
theorem sum_top (f : Fin 128 → EReal) (h : ∀ k, f k ≠ ⊥) (k0 : Fin 128) (hk : f k0 = ⊤) : ∑ k, f k = ⊤ := by
  have hb : ∀ s : Finset (Fin 128), ∑ k ∈ s, f k ≠ ⊥ := fun s => by
    induction s using Finset.induction_on with
    | empty => simp
    | insert a s ha ih => rw [Finset.sum_insert ha]; exact EReal.add_ne_bot_iff.mpr ⟨h a, ih⟩
  rw [← Finset.add_sum_erase _ _ (Finset.mem_univ k0), hk]
  exact EReal.top_add_of_ne_bot (hb _)

/-- A square is not `⊥`. -/
theorem square_ne_bot (x : EReal) : x * x ≠ ⊥ := by
  induction x using EReal.rec with
  | bot => simp
  | top => simp
  | coe r => rw [← EReal.coe_mul]; exact EReal.coe_ne_bot _

/-- Of a query with an infinite entry the squared distance to a real row is `⊥` or `⊤`. -/
theorem sq_infinite {a b : ℕ} (Q : (⟨2, ![a, 128]⟩ : Shape).Idx → EReal) (R : (⟨2, ![b, 128]⟩ : Shape).Idx → EReal)
    (hR : ∀ i, ∃ r : ℝ, R i = r) (q : Fin a) (k0 : Fin 128) (hQ : Q (ix2 q k0) = ⊥ ∨ Q (ix2 q k0) = ⊤) (n : Fin b) :
    sq Q R q n = ⊥ ∨ sq Q R q n = ⊤ := by
  choose g hg using hR
  unfold sq
  rw [sum_top (fun k => Q (ix2 q k) * Q (ix2 q k)) (fun k => square_ne_bot _) k0 (by rcases hQ with e | e <;> simp [e])]
  simp only [hg, ← EReal.coe_mul, coe_sum]
  rw [EReal.top_add_coe]
  generalize (Ideal.ofBits .f32 0x40000000#32 : EReal) * ((∑ k : Fin 128, Q (ix2 q k) * (g (ix2 n k) : EReal)) : EReal) = y
  rw [sub_eq_add_neg]
  induction y using EReal.rec with
  | bot => exact .inr (by simp)
  | top => exact .inl (by simp)
  | coe r => exact .inr (by rw [← EReal.coe_neg]; exact EReal.top_add_coe _)

/-- Along one query the squared distances to real rows are nonnegative reals, or else each is `⊥` or `⊤`. -/
theorem sq_either {a b : ℕ} (Q : (⟨2, ![a, 128]⟩ : Shape).Idx → EReal) (R : (⟨2, ![b, 128]⟩ : Shape).Idx → EReal)
    (hR : ∀ i, ∃ r : ℝ, R i = r) (q : Fin a) :
    (∀ n : Fin b, ∃ s : ℝ, 0 ≤ s ∧ sq Q R q n = s) ∨ ∀ n : Fin b, sq Q R q n = ⊥ ∨ sq Q R q n = ⊤ := by
  by_cases h : ∃ k0, Q (ix2 q k0) = ⊥ ∨ Q (ix2 q k0) = ⊤
  · obtain ⟨k0, h⟩ := h
    exact .inr (sq_infinite Q R hR q k0 h)
  · refine .inl fun n => sq_real Q R q (fun k => ?_) hR n
    induction e : Q (ix2 q k) using EReal.rec with
    | bot => exact absurd ⟨k, .inl e⟩ h
    | top => exact absurd ⟨k, .inr e⟩ h
    | coe r => exact ⟨r, rfl⟩

/-- Along one query the negated distances to real rows are in the reverse order of the squared ones. -/
theorem neg_root_sq {a b : ℕ} (Q : (⟨2, ![a, 128]⟩ : Shape).Idx → EReal) (R : (⟨2, ![b, 128]⟩ : Shape).Idx → EReal)
    (hR : ∀ i, ∃ r : ℝ, R i = r) (q : Fin a) (n n' : Fin b) :
    -root (sq Q R q n') < -root (sq Q R q n) ↔ sq Q R q n < sq Q R q n' := by
  rcases sq_either Q R hR q with h | h
  · exact neg_root_lt _ _ (h n) (h n')
  · have hb : root ⊥ = 0 := by
      rw [show root ⊥ = root ((0 : ℝ) : EReal) from by unfold root; simp, root_real 0 le_rfl]; simp
    have ht : root ⊤ = ⊤ := by unfold root; rw [max_eq_left le_top]; rfl
    rcases h n with e | e <;> rcases h n' with e' | e' <;> simp [e, e', hb, ht]

end Cert.Knn
-- ==== Proof.TopK.lean ====
/-
  The sixty-four greatest of a row, as positions of a stable sort.
-/
module

public import proofs.«01_k».proof.Proof.Sort
public import proofs.«01_k».proof.Proof.Real

@[expose] public section
set_option maxRecDepth 100000

noncomputable section

namespace Cert.Knn

open Idealize.ShloMosaic

/-- The position the stable sort of `f` puts at `r`, smallest first. -/
def pos (f : Fin 100000 → EReal) (r : Fin 100000) : Fin 100000 := sortedFrom (fun k k' => decide (f k < f k')) r

/-- The shape of the array that is sorted. -/
abbrev Wide : Shape := ⟨2, ![4096, 100000]⟩
/-- The shape of what is kept of it. -/
abbrev Narrow : Shape := ⟨2, ![4096, 64]⟩

/-- Moving along a query changes the row. -/
theorem along_ix2 (q : Fin 4096) (r k : Fin 100000) : (ix2 q r : Wide.Idx).along 1 k = ix2 q k := by
  unfold Shape.Idx.along
  funext a
  match a with
  | ⟨0, _⟩ => rfl
  | ⟨1, _⟩ => rfl

/-- The sort's comparison is the order of the extended reals. -/
theorem gt_iff (x y : EReal) : ((FloatOps.cmpfTotal (F := Ideal) (φ := .f32) .gt x y) == 1#1) = decide (y < x) := by
  show (BitVec.ofBool (decide (y < x)) == 1#1) = decide (y < x)
  cases decide (y < x) <;> rfl

section
variable (x : FVec Ideal Wide .f32) (f : Fin 4096 → Fin 100000 → EReal)
  (hx : ∀ q k k', x (ix2 q k') < x (ix2 q k) ↔ f q k < f q k')
  (h : Wide.Slices (fun _ => 0) Narrow) (q : Fin 4096) (r : Fin 64)
include hx

/-- The order the sort runs under, along one query. -/
theorem sort_before (q : Fin 4096) (r : Fin 100000) :
    sortedFrom (fun k k' : Fin 100000 => FloatOps.cmpfTotal (F := Ideal) (φ := .f32) .gt (x ((ix2 q r : Wide.Idx).along 1 k)) (x ((ix2 q r : Wide.Idx).along 1 k')) == 1#1) r
      = pos (f q) r := by
  unfold pos
  congr 1
  funext k k'
  rw [along_ix2, along_ix2, gt_iff, decide_eq_decide]
  exact hx q k k'

/-- The values that the sort leaves first are those at the stable sort's positions. -/
theorem top_val : (Host.topK Narrow 1 (FloatOps.cmpfTotal (F := Ideal) (φ := .f32) .gt) x h).1 (ix2 q r) =
    x (ix2 q (pos (f q) ⟨r.val, by omega⟩)) := by
  have hJ : ∀ J : Wide.Idx, J = ix2 q ⟨r.val, by omega⟩ →
      x (J.along 1 (sortedFrom (fun k k' : Fin 100000 => FloatOps.cmpfTotal (F := Ideal) (φ := .f32) .gt (x (J.along 1 k)) (x (J.along 1 k')) == 1#1) (J 1)))
        = x (ix2 q (pos (f q) ⟨r.val, by omega⟩)) := by
    rintro J rfl
    exact congrArg x (Eq.trans (along_ix2 q ⟨r.val, by omega⟩ _) (congrArg (ix2 q) (sort_before x f hx q ⟨r.val, by omega⟩)))
  refine hJ _ ?_
  funext a
  apply Fin.ext
  match a with
  | ⟨0, _⟩ => exact Nat.zero_add _
  | ⟨1, _⟩ => exact Nat.zero_add _

/-- The row numbers that it leaves first are those positions. -/
theorem top_row : (Host.topK Narrow 1 (FloatOps.cmpfTotal (F := Ideal) (φ := .f32) .gt) x h).2 (ix2 q r) =
    BitVec.ofNat 32 (pos (f q) ⟨r.val, by omega⟩).val := by
  have hJ : ∀ J : Wide.Idx, J = ix2 q ⟨r.val, by omega⟩ →
      BitVec.ofNat 32 ((J.along 1 (sortedFrom (fun k k' : Fin 100000 => FloatOps.cmpfTotal (F := Ideal) (φ := .f32) .gt (x (J.along 1 k)) (x (J.along 1 k')) == 1#1) (J 1))) 1).val
        = BitVec.ofNat 32 (pos (f q) ⟨r.val, by omega⟩).val := by
    rintro J rfl
    exact congrArg (BitVec.ofNat 32) (congrArg Fin.val ((Function.update_self _ _ _).trans (sort_before x f hx q ⟨r.val, by omega⟩)))
  refine hJ _ ?_
  funext a
  apply Fin.ext
  match a with
  | ⟨0, _⟩ => exact Nat.zero_add _
  | ⟨1, _⟩ => exact Nat.zero_add _

end

/-- Query `q`'s `r`-th pick: the row the stable sort of the squared distances puts at `r`. -/
def pick (d : ℕ → EReal) (r : ℕ) : ℕ := if h : r < 100000 then (pos (fun k => d k.val) ⟨r, h⟩).val else 0

/-- A pick of a rank below 100000 is the stable sort's position. -/
theorem pick_eq (d : ℕ → EReal) (r : ℕ) (h : r < 100000) : pick d r = (pos (fun k => d k.val) ⟨r, h⟩).val := by
  unfold pick; rw [dif_pos h]

/-- A pick is a row of the array. -/
theorem pick_lt (d : ℕ → EReal) (r : ℕ) : pick d r < 100000 := by
  unfold pick; split
  · exact Fin.isLt _
  · omega

/-- The rank of a row is the order of the stable sort. -/
theorem rk_lt_iff (d : ℕ → EReal) (a b : Fin 100000) : rk d a.val < rk d b.val ↔ First (fun k : Fin 100000 => d k.val) a b := by
  unfold rk First
  rw [Prod.Lex.toLex_lt_toLex]
  simp

/-- The picks are in the order of their ranks. -/
theorem pick_inc (d : ℕ → EReal) (r s : ℕ) (hr : r < 64) (hs : s < 64) (h : r < s) : rk d (pick d r) < rk d (pick d s) := by
  rw [pick_eq d r (by omega), pick_eq d s (by omega), rk_lt_iff]
  exact first_sorted _ _ (fun a b => by simp) h

/-- A row is a pick or ranks above the last one. -/
theorem pick_rest (d : ℕ → EReal) (n : ℕ) (hn : n < 100000) : (∃ r < 64, n = pick d r) ∨ rk d (pick d 63) < rk d n := by
  by_cases h : ∃ r < 64, n = pick d r
  · exact .inl h
  · refine .inr ?_
    rw [pick_eq d 63 (by omega), show n = (⟨n, hn⟩ : Fin 100000).val from rfl, rk_lt_iff]
    refine first_rest _ _ (fun a b => by simp) _ fun s hs e => h ⟨s.val, ?_, ?_⟩
    · have : s.val ≤ 63 := hs
      omega
    · rw [pick_eq d s.val s.isLt]
      exact congrArg Fin.val e

attribute [irreducible] pos pick

end Cert.Knn
-- ==== Proof.Merge.lean ====
/-
  One round of the merge kernel at one query: where the fronts of the 128 lanes are those of the wanted rows, the round
  finds the next wanted row, and the lane holding it moves up by one slot.
-/
module

public import proofs.«01_k».proof.Proof.Select
public import Idealize.ShloMosaic.PureOps.Ideal.Laws
public import Idealize.ShloMosaic.Lib.ValueLayout
public import Idealize.ShloMosaic.Lib.ValueLayoutCasts
public import Idealize.ShloMosaic.Lib.SortNet.Extract

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

/-- The vectors of the merge kernel: values, and row numbers. -/
abbrev WF (F : FTy → Type) : Type := FVec F S1024x128 .f32
/-- A block of row numbers, one lane per column. -/
abbrev WI : Type := IVec S1024x128 32

/-- Leaving out the lane of an index leaves its query. -/
theorem drop_row (h : S1024x128.Reduces [1] S1024) (i : S1024x128.Idx) (q : Fin 1024) :
    h.drop i = ix1 q ↔ (i 0).val = q.val := by
  simp [funext_iff, Fin.ext_iff, Fin.forall_fin_one, h.drop_apply_val_of_eq i 0 0]

/-- The least value of a query's fronts. -/
theorem least_value (a : WF Ideal) (q : Fin 1024) (m : EReal) (h1 : ∀ l : Fin 128, m ≤ a (ix2 q l))
    (l0 : Fin 128) (h2 : a (ix2 q l0) = m) : k2_pay4 a (ix1 q) = m := by
  refine Eq.trans (multiReduction_minimumf_eq_fold (F := Ideal) a _ reduces_S1024x128_S1024 (.inl rfl) rfl (ix1 q)) ?_
  refine le_antisymm ?_ ?_
  · refine (Finset.fold_min_le (f := a) m).mpr (Or.inr ⟨ix2 q l0, ?_, h2.le⟩)
    simp only [Finset.mem_filter, Finset.mem_univ, true_and]
    exact (drop_row _ _ _).mpr rfl
  · refine (Finset.le_fold_min (f := a) m).mpr ⟨le_top.trans_eq ofBits_inf.symm, fun i hi => ?_⟩
    simp only [Finset.mem_filter, Finset.mem_univ, true_and] at hi
    have h0 : (i 0 : Fin 1024) = q := Fin.ext ((drop_row _ _ _).mp hi)
    have := h1 (i 1)
    rw [← h0] at this
    rwa [ix2_eta] at this

/-- Which fronts hold the least value. -/
theorem eq_least (a : WF Ideal) (q : Fin 1024) (l : Fin 128) :
    k2_pay5 a (ix2 q l) = BitVec.ofBool (decide (a (ix2 q l) = k2_pay4 a (ix1 q))) := by
  have e : broadcastTo S1024x128 (shapeCast S1024x1 (k2_pay4 a) shapeCasts_S1024_S1024x1) broadcasts_S1024x1_S1024x128 (ix2 q l)
      = k2_pay4 a (ix1 q) := by
    rw [broadcastTo_apply _ _ _ (ix2 q (0 : Fin 1)) (fun ax => by match ax with | ⟨0, _⟩ => rfl | ⟨1, _⟩ => rfl)]
    exact ValueIdx.shapeCast_a_a1_apply _ _ _ _
  show BitVec.ofBool (decide (a (ix2 q l) = _)) = _
  rw [e]

/-- The smallest row number among the fronts of the least value. -/
theorem least_row (a : WF Ideal) (b : WI) (q : Fin 1024) (m : EReal) (n : BitVec 32) (hm : k2_pay4 a (ix1 q) = m)
    (hn : n.toInt ≤ 1073741824) (h1 : ∀ l : Fin 128, a (ix2 q l) = m → n.toInt ≤ (b (ix2 q l)).toInt)
    (l0 : Fin 128) (h2 : a (ix2 q l0) = m) (h3 : b (ix2 q l0) = n) : k2_pay6 a b (ix1 q) = n := by
  refine Eq.trans (multiReductionI_eq_fold .minsi (select (k2_pay5 a) b (broadcast S1024x128 1073741824#32)) _
    reduces_S1024x128_S1024 rfl (ix1 q)) ?_
  apply BitVec.eq_of_toInt_eq
  refine Eq.trans (Finset.fold_hom (op := IntOp.minsi) (op' := (min : ℤ → ℤ → ℤ)) (m := BitVec.toInt) (fun x y => SortNet.toInt_minsi x y)).symm ?_
  have at_q : ∀ l : Fin 128, select (k2_pay5 a) b (broadcast S1024x128 1073741824#32) (ix2 q l) =
      if a (ix2 q l) = m then b (ix2 q l) else 1073741824#32 := by
    intro l
    show Scalar.select (k2_pay5 a (ix2 q l)) (b (ix2 q l)) 1073741824#32 = _
    rw [eq_least, hm]
    unfold Scalar.select
    by_cases h : a (ix2 q l) = m <;> simp [h]
  refine le_antisymm ?_ ?_
  · refine (Finset.fold_min_le _).mpr (Or.inr ⟨ix2 q l0, ?_, ?_⟩)
    · simp only [Finset.mem_filter, Finset.mem_univ, true_and]
      exact (drop_row _ _ _).mpr rfl
    · rw [at_q, if_pos h2, h3]
  · refine (Finset.le_fold_min _).mpr ⟨?_, fun i hi => ?_⟩
    · exact hn.trans (by decide)
    · simp only [Finset.mem_filter, Finset.mem_univ, true_and] at hi
      have h0 : (i 0 : Fin 1024) = q := Fin.ext ((drop_row _ _ _).mp hi)
      obtain ⟨l, e⟩ : ∃ l : Fin 128, i = ix2 q l := ⟨i 1, by rw [← h0]; exact (ix2_eta i).symm⟩
      rw [e, at_q]
      split
      · exact h1 _ (by assumption)
      · exact hn.trans (by decide)

/-- Which front is the row found. -/
theorem is_found (a : WF Ideal) (b : WI) (q : Fin 1024) (l : Fin 128) :
    k2_pay7 a b (ix2 q l) = 1 ↔ a (ix2 q l) = k2_pay4 a (ix1 q) ∧ b (ix2 q l) = k2_pay6 a b (ix1 q) := by
  have e : broadcastTo S1024x128 (shapeCast S1024x1 (k2_pay6 a b) shapeCasts_S1024_S1024x1) broadcasts_S1024x1_S1024x128 (ix2 q l)
      = k2_pay6 a b (ix1 q) := by
    rw [broadcastTo_apply _ _ _ (ix2 q (0 : Fin 1)) (fun ax => by match ax with | ⟨0, _⟩ => rfl | ⟨1, _⟩ => rfl)]
    exact ValueIdx.shapeCast_a_a1_apply _ _ _ _
  have e2 : k2_pay7 a b (ix2 q l) = (k2_pay5 a (ix2 q l) &&& BitVec.ofBool (b (ix2 q l) ==
      broadcastTo S1024x128 (shapeCast S1024x1 (k2_pay6 a b) shapeCasts_S1024_S1024x1) broadcasts_S1024x1_S1024x128 (ix2 q l))) := rfl
  rw [e2, e, eq_least]
  by_cases h1 : a (ix2 q l) = k2_pay4 a (ix1 q) <;> by_cases h2 : b (ix2 q l) = k2_pay6 a b (ix1 q)
  · simp [h1, h2]
  · simp [h1, h2, beq_false_of_ne h2]
  · simp [h1, h2]
  · simp [h1, h2]

/-- A pair of the merge kernel's vectors at one query and lane. -/
def wat (u : WF Ideal × WI) (q : Fin 1024) (l : Fin 128) : Cell := (u.1 (ix2 q l), u.2 (ix2 q l))

section round

variable {d : ℕ → EReal} {π : ℕ → ℕ} (P : Picks d π) {r : ℕ} (hr : r < 64) (a : WF Ideal) (b : WI) (q : Fin 1024)
  (h : ∀ l : Fin 128, wat (a, b) q l = Picks.cur d π l.val r 0)
include P hr h

omit P hr in
/-- A lane's front holds the distance that its list of slots says. -/
theorem front1 (l : Fin 128) : a (ix2 q l) = (Picks.cur d π l.val r 0).1 := congrArg Prod.fst (h l)
omit P hr in
/-- A lane's front holds the row number that its list of slots says. -/
theorem front2 (l : Fin 128) : b (ix2 q l) = (Picks.cur d π l.val r 0).2 := congrArg Prod.snd (h l)

/-- The front of the `r`-th pick's own lane is that pick. -/
theorem own : Picks.cur d π (π r % 128) r 0 = cell d (π r) := (P.front_eq (Nat.mod_lt _ (by omega)) hr).mpr rfl

/-- The round's value is the `r`-th wanted distance. -/
theorem round_value : k2_pay4 a (ix1 q) = d (π r) := by
  refine least_value a q _ (fun l => ?_) ⟨π r % 128, Nat.mod_lt _ (by omega)⟩ ?_
  · rw [front1 a b q h]; exact P.front_val l.isLt hr
  · rw [front1 a b q h]; exact congrArg Prod.fst (own P hr a b q h)

/-- The round's row is the `r`-th wanted row. -/
theorem round_row : k2_pay6 a b (ix1 q) = BitVec.ofNat 32 (π r) := by
  have hp := P.lt r hr
  have ht : (BitVec.ofNat 32 (π r)).toInt = (π r : ℤ) := toInt_ofNat_small (by omega)
  refine least_row a b q _ _ (round_value P hr a b q h) (by omega) (fun l e => ?_) ⟨π r % 128, Nat.mod_lt _ (by omega)⟩ ?_ ?_
  · rw [front1 a b q h] at e
    rw [front2 a b q h, ht]; exact P.front_idx l.isLt hr e
  · rw [front1 a b q h]; exact congrArg Prod.fst (own P hr a b q h)
  · rw [front2 a b q h]; exact congrArg Prod.snd (own P hr a b q h)

/-- The lane that moves up is the wanted row's. -/
theorem round_lane (l : Fin 128) : k2_pay7 a b (ix2 q l) = 1 ↔ π r % 128 = l.val := by
  rw [is_found, round_value P hr a b q h, round_row P hr a b q h, ← P.front_eq l.isLt hr, front1 a b q h, front2 a b q h]
  exact (Prod.ext_iff (x := Picks.cur d π l.val r 0) (y := cell d (π r))).symm

/-- What moves up: a slot takes the next one's place in the found row's lane and stays elsewhere. -/
theorem round_slot (u w : WF Ideal × WI) (l : Fin 128) (k : ℕ) (hu : wat u q l = Picks.cur d π l.val r k)
    (hw : wat w q l = Picks.cur d π l.val r (k + 1)) :
    wat (select (k2_pay7 a b) w.1 u.1, select (k2_pay7 a b) w.2 u.2) q l = Picks.cur d π l.val (r + 1) k := by
  rw [Picks.cur_succ, ← hu, ← hw]
  show (Scalar.select (k2_pay7 a b (ix2 q l)) (w.1 (ix2 q l)) (u.1 (ix2 q l)),
    Scalar.select (k2_pay7 a b (ix2 q l)) (w.2 (ix2 q l)) (u.2 (ix2 q l))) = _
  unfold Scalar.select
  simp only [round_lane P hr a b q h]
  split <;> rfl

end round

/-- The row of values a round stores: the root of the found value, or of zero below. -/
theorem stored_value (a : WF Ideal) (q : Fin 1024) :
    k2_pay24 a (ix2 (0 : Fin 1) q) = Ideal.sqrt (max (k2_pay4 a (ix1 q)) 0) := by
  have e : k2_pay24 a = shapeCast S1x1024 (sqrt (maximumf (k2_pay4 a) (broadcast S1024 (Scalar.ofBits (F := Ideal) .f32 0x00000000#32))))
    shapeCasts_S1024_S1x1024 := rfl
  rw [e]
  refine (ValueIdx.shapeCast_a_1a_apply (a := 1024) _ shapeCasts_S1024_S1x1024 0 q).trans ?_
  have e2 : sqrt (maximumf (k2_pay4 a) (broadcast S1024 (Scalar.ofBits (F := Ideal) .f32 0x00000000#32))) (ix1 q) =
    FloatOps.sqrt (F := Ideal) (FloatOps.maximumf (F := Ideal) (k2_pay4 a (ix1 q)) (Scalar.ofBits (F := Ideal) .f32 0x00000000#32)) := rfl
  have e3 : (Scalar.ofBits (F := Ideal) .f32 0x00000000#32 : Ideal .f32) = (0 : EReal) := Ideal.ofBits_zero_f32
  refine Eq.trans e2 ?_
  rw [e3, Ideal.sqrt_def, Ideal.maximumf_def]

/-- The row of row numbers a round stores. -/
theorem stored_row (a : WF Ideal) (b : WI) (q : Fin 1024) :
    (k2_pay25 (F := Ideal) a b : IVec S1x1024 32) (ix2 (0 : Fin 1) q : (⟨2, ![1, 1024]⟩ : Shape).Idx) =
      (k2_pay6 (F := Ideal) a b : IVec S1024 32) (ix1 q) := by
  have e : k2_pay25 a b = shapeCast S1x1024 (k2_pay6 a b) shapeCasts_S1024_S1x1024 := rfl
  rw [e]
  exact ValueIdx.shapeCast_a_1a_apply (a := 1024) _ shapeCasts_S1024_S1x1024 0 q

end Cert.Knn
-- ==== Proof.MergeLoop.lean ====
/-
  The merge kernel's loop: the sixty-four rounds, and what they store in a block of 1024 queries.
-/
module

public import proofs.«01_k».proof.Proof.Merge
public import Idealize.ShloMosaic.Lib.Writes
public import Idealize.ShloMosaic.Lib.Pipeline.ValueKit.Geometry
public import Idealize.ShloMosaic.Lib.Pipeline.ValueKit.Acc

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

section vectors

variable {F : FTy → Type} [FloatOps F]

/-- What the loop carries: nine vectors of values, then nine of row numbers. -/
abbrev Car (F : FTy → Type) : Type :=
  WF F × WF F × WF F × WF F × WF F × WF F × WF F × WF F × WF F × WI × WI × WI × WI × WI × WI × WI × WI × WI

/-- Nine slots as what the loop carries. -/
def carOf (s : Fin 9 → WF F × WI) : Car F :=
  ((s 0).1, (s 1).1, (s 2).1, (s 3).1, (s 4).1, (s 5).1, (s 6).1, (s 7).1, (s 8).1,
   (s 0).2, (s 1).2, (s 2).2, (s 3).2, (s 4).2, (s 5).2, (s 6).2, (s 7).2, (s 8).2)

/-- The found row's lane moved up by one slot. -/
def upV (s : Fin 9 → WF F × WI) (u w : Fin 9) : WF F × WI :=
  (select (k2_pay7 (s 0).1 (s 0).2) (s w).1 (s u).1, select (k2_pay7 (s 0).1 (s 0).2) (s w).2 (s u).2)

/-- The slots behind a round. -/
def nextS (v0 : WF F) (v1 : WI) (s : Fin 9 → WF F × WI) : Fin 9 → WF F × WI
  | 0 => upV s 0 1
  | 1 => upV s 1 2
  | 2 => upV s 2 3
  | 3 => upV s 3 4
  | 4 => upV s 4 5
  | 5 => upV s 5 6
  | 6 => upV s 6 7
  | 7 => upV s 7 8
  | 8 => (v0, v1)

section trip

variable (𝒱 : Variants) (c : Dev nD) (bd : Option 𝒱.V) (i : grid2.Coords)
  (arg1 : Memref sig .tc .vmem S1024x1024 .f32) (harg1 : arg1.IsWhole)
  (arg2 : Memref sig .tc .vmem S1024x1024 .i32) (harg2 : arg2.IsWhole)
  (arg3 : Memref sig .tc .vmem S64x1024 .f32) (harg3 : arg3.IsWhole)
  (arg4 : Memref sig .tc .vmem S64x1024 .i32) (harg4 : arg4.IsWhole) (v0 : WF F) (v1 : WI)
  (k : Fin k2_t1_loop.trips) (s : Fin 9 → WF F × WI)

/-- What a round carries on. -/
theorem round_eq : tripR_k2_t1 𝒱 c bd i arg1 harg1 arg2 harg2 arg3 harg3 arg4 harg4 v0 v1 k (carOf s) = carOf (nextS v0 v1 s) := by
  unfold tripR_k2_t1 trip_k2_t1
  rfl

/-- What a round stores. -/
theorem round_stores : tripL_k2_t1 𝒱 c bd i arg1 harg1 arg2 harg2 arg3 harg3 arg4 harg4 v0 v1 k (carOf s) =
    ([⟨Rect.unit (k2_off1 k) S1x1024.size (k2_off1_inb k), k2_pay24 (s 0).1⟩],
     [⟨Rect.unit (k2_off1 k) S1x1024.size (k2_off1_inb k), k2_pay25 (s 0).1 (s 0).2⟩]) := by
  unfold tripL_k2_t1 trip_k2_t1
  rfl

end trip

section start

variable (c : Dev nD) (i : grid2.Coords)
  (arg1 : Memref sig .tc .vmem S1024x1024 .f32) (harg1 : arg1.IsWhole)
  (arg2 : Memref sig .tc .vmem S1024x1024 .i32) (harg2 : arg2.IsWhole)
  (arg3 : Memref sig .tc .vmem S64x1024 .f32) (harg3 : arg3.IsWhole)
  (arg4 : Memref sig .tc .vmem S64x1024 .i32) (harg4 : arg4.IsWhole)
  (x0 : Vec F S1024x1024 .f32) (x1 : Vec F S1024x1024 .i32)

/-- 128 columns of the block of values. -/
def colsF (off : ℕ) (inb : ∀ a, (![0, off] : Fin 2 → ℕ) a + S1024x128.size a ≤ S1024x1024.size a) : WF F :=
  shapeCast S1024x128 (View.readAt (Elt F) arg1.view
    (Rect.unit (s := S1024x1024) ![0, off] S1024x128.size inb).toLoadRect (harg1.unread x0)) shapeCasts_S1024x128_S1024x128

/-- 128 columns of the block of row numbers. -/
def colsI (off : ℕ) (inb : ∀ a, (![0, off] : Fin 2 → ℕ) a + S1024x128.size a ≤ S1024x1024.size a) : WI :=
  shapeCast S1024x128 (View.readAt (Elt F) arg2.view
    (Rect.unit (s := S1024x1024) ![0, off] S1024x128.size inb).toLoadRect (harg2.unread x1)) shapeCasts_S1024x128_S1024x128

/-- The slots before the first round. -/
def start : Fin 9 → WF F × WI
  | 0 => (colsF arg1 harg1 x0 0 inb_S1024x1024_S1024x128_0_0, colsI arg2 harg2 x1 0 inb_S1024x1024_S1024x128_0_0)
  | 1 => (colsF arg1 harg1 x0 128 inb_S1024x1024_S1024x128_0_128, colsI arg2 harg2 x1 128 inb_S1024x1024_S1024x128_0_128)
  | 2 => (colsF arg1 harg1 x0 256 inb_S1024x1024_S1024x128_0_256, colsI arg2 harg2 x1 256 inb_S1024x1024_S1024x128_0_256)
  | 3 => (colsF arg1 harg1 x0 384 inb_S1024x1024_S1024x128_0_384, colsI arg2 harg2 x1 384 inb_S1024x1024_S1024x128_0_384)
  | 4 => (colsF arg1 harg1 x0 512 inb_S1024x1024_S1024x128_0_512, colsI arg2 harg2 x1 512 inb_S1024x1024_S1024x128_0_512)
  | 5 => (colsF arg1 harg1 x0 640 inb_S1024x1024_S1024x128_0_640, colsI arg2 harg2 x1 640 inb_S1024x1024_S1024x128_0_640)
  | 6 => (colsF arg1 harg1 x0 768 inb_S1024x1024_S1024x128_0_768, colsI arg2 harg2 x1 768 inb_S1024x1024_S1024x128_0_768)
  | 7 => (colsF arg1 harg1 x0 896 inb_S1024x1024_S1024x128_0_896, colsI arg2 harg2 x1 896 inb_S1024x1024_S1024x128_0_896)
  | 8 => (k2_pay26, k2_pay27)

/-- The state before round `K`. -/
def rounds (K : ℕ) :=
  st_k2_t1 (F := F) Variants.none c none i arg1 harg1 arg2 harg2 arg3 harg3 arg4 harg4 k2_pay26 k2_pay27
    (carOf (start arg1 harg1 arg2 harg2 x0 x1)) K

/-- One round more. -/
theorem rounds_succ (K : ℕ) (hk : K < k2_t1_loop.trips) (s : Fin 9 → WF F × WI)
    (h : (rounds c i arg1 harg1 arg2 harg2 arg3 harg3 arg4 harg4 x0 x1 K).1 = carOf s) :
    rounds c i arg1 harg1 arg2 harg2 arg3 harg3 arg4 harg4 x0 x1 (K + 1) =
      (carOf (nextS k2_pay26 k2_pay27 s),
       ⟨Rect.unit (k2_off1 ⟨K, hk⟩) S1x1024.size (k2_off1_inb ⟨K, hk⟩), k2_pay24 (s 0).1⟩ ::
         (rounds c i arg1 harg1 arg2 harg2 arg3 harg3 arg4 harg4 x0 x1 K).2.1,
       ⟨Rect.unit (k2_off1 ⟨K, hk⟩) S1x1024.size (k2_off1_inb ⟨K, hk⟩), k2_pay25 (s 0).1 (s 0).2⟩ ::
         (rounds c i arg1 harg1 arg2 harg2 arg3 harg3 arg4 harg4 x0 x1 K).2.2) := by
  refine (st_k2_t1_succ (F := F) Variants.none c none i arg1 harg1 arg2 harg2 arg3 harg3 arg4 harg4 k2_pay26 k2_pay27
      (carOf (start arg1 harg1 arg2 harg2 x0 x1)) ⟨K, hk⟩).trans ?_
  have h' : (st_k2_t1 (F := F) Variants.none c none i arg1 harg1 arg2 harg2 arg3 harg3 arg4 harg4 k2_pay26 k2_pay27
      (carOf (start arg1 harg1 arg2 harg2 x0 x1)) K).1 = carOf s := h
  have e1 := round_eq Variants.none c none i arg1 harg1 arg2 harg2 arg3 harg3 arg4 harg4 k2_pay26 k2_pay27 ⟨K, hk⟩ s
  have e2 := round_stores Variants.none c none i arg1 harg1 arg2 harg2 arg3 harg3 arg4 harg4 k2_pay26 k2_pay27 ⟨K, hk⟩ s
  rw [← h'] at e1 e2
  exact Prod.ext e1 (Prod.ext (congrArg (fun z => z.1 ++ _) e2) (congrArg (fun z => z.2 ++ _) e2))

/-- The pieces stored to the first result are those of all the trips. -/
theorem pieces2_2 : (kernelRun2_A c i arg1 harg1 arg2 harg2 arg3 harg3 arg4 harg4 x0 x1).1 =
    (rounds c i arg1 harg1 arg2 harg2 arg3 harg3 arg4 harg4 x0 x1 (Scf.trips k2_t1_loop.lb k2_t1_loop.ub k2_t1_loop.st)).2.1 := by
  unfold kernelRun2_A
  dsimp only
  rfl

/-- The pieces stored to the second result are those of all the trips. -/
theorem pieces2_3 : (kernelRun2_A c i arg1 harg1 arg2 harg2 arg3 harg3 arg4 harg4 x0 x1).2.1 =
    (rounds c i arg1 harg1 arg2 harg2 arg3 harg3 arg4 harg4 x0 x1 (Scf.trips k2_t1_loop.lb k2_t1_loop.ub k2_t1_loop.st)).2.2 := by
  unfold kernelRun2_A
  dsimp only
  rfl

end start

end vectors

section values

variable (c : Dev nD) (i : grid2.Coords)
  (arg1 : Memref sig .tc .vmem S1024x1024 .f32) (harg1 : arg1.IsWhole)
  (arg2 : Memref sig .tc .vmem S1024x1024 .i32) (harg2 : arg2.IsWhole)
  (arg3 : Memref sig .tc .vmem S64x1024 .f32) (harg3 : arg3.IsWhole)
  (arg4 : Memref sig .tc .vmem S64x1024 .i32) (harg4 : arg4.IsWhole)
  (x0 : Vec Ideal S1024x1024 .f32) (x1 : Vec Ideal S1024x1024 .i32)
  (D : Fin 1024 → ℕ → EReal) (pk : Fin 1024 → ℕ → ℕ) (hP : ∀ q, Picks (D q) (pk q))
  (hx : ∀ (q : Fin 1024) (m : Fin 1024), (x0 (ix2 q m), x1 (ix2 q m)) = Picks.ext (D q) (m.val % 128) (m.val / 128))

/-- A slice of 128 columns of the distances holds the block's own entries. -/
theorem colsF_at (off : ℕ) (inb) (q : Fin 1024) (l : Fin 128) (m : Fin 1024) (hm : m.val = off + l.val) :
    colsF arg1 harg1 x0 off inb (ix2 q l) = x0 (ix2 q m) := by
  unfold colsF
  have hc : ∀ v : FVec Ideal S1024x128 .f32, shapeCast S1024x128 v shapeCasts_S1024x128_S1024x128 = v := fun v => shapeCast_self v _
  have h2 := hc (View.readAt (Elt Ideal) arg1.view
    (Rect.unit (s := S1024x1024) ![0, off] S1024x128.size inb).toLoadRect (harg1.unread x0))
  refine (congrFun h2 (ix2 q l)).trans ?_
  rw [View.readAt_eq_ld, harg1.read_unread]
  refine View.ld_unit_apply_of x0 _ _ _ (ix2 q l) _ fun a => ?_
  match a with
  | ⟨0, _⟩ => exact (Nat.zero_add _).symm
  | ⟨1, _⟩ => exact hm

/-- A slice of 128 columns of the row numbers holds the block's own entries. -/
theorem colsI_at (off : ℕ) (inb) (q : Fin 1024) (l : Fin 128) (m : Fin 1024) (hm : m.val = off + l.val) :
    colsI arg2 harg2 x1 off inb (ix2 q l) = x1 (ix2 q m) := by
  unfold colsI
  have hc : ∀ v : IVec S1024x128 32, shapeCast S1024x128 v shapeCasts_S1024x128_S1024x128 = v := fun v => shapeCast_self v _
  have h2 := hc (View.readAt (Elt Ideal) arg2.view
    (Rect.unit (s := S1024x1024) ![0, off] S1024x128.size inb).toLoadRect (harg2.unread x1))
  refine (congrFun h2 (ix2 q l)).trans ?_
  rw [View.readAt_eq_ld, harg2.read_unread]
  refine View.ld_unit_apply_of (Val := Elt Ideal) x1 _ _ _ (ix2 q l) _ fun a => ?_
  match a with
  | ⟨0, _⟩ => exact (Nat.zero_add _).symm
  | ⟨1, _⟩ => exact hm

include hx in
/-- The `u`-th slice holds slot `u` of every lane. -/
theorem cols_at (u : ℕ) (hu : u < 8) (inb) (q : Fin 1024) (l : Fin 128) :
    wat (colsF arg1 harg1 x0 (128 * u) inb, colsI arg2 harg2 x1 (128 * u) inb) q l = Picks.ext (D q) l.val u := by
  have hl := l.isLt
  have hm : 128 * u + l.val < 1024 := by omega
  unfold wat
  dsimp only
  rw [colsF_at arg1 harg1 x0 _ _ q l ⟨128 * u + l.val, hm⟩ rfl, colsI_at arg2 harg2 x1 _ _ q l ⟨128 * u + l.val, hm⟩ rfl, hx]
  show Picks.ext (D q) ((128 * u + l.val) % 128) ((128 * u + l.val) / 128) = _
  rw [show (128 * u + l.val) % 128 = l.val by omega, show (128 * u + l.val) / 128 = u by omega]

/-- The ninth slot is blank. -/
theorem blank_at (q : Fin 1024) (l : Fin 128) : wat ((k2_pay26 : WF Ideal), k2_pay27) q l = blank := by
  have e : (k2_pay26 : WF Ideal) (ix2 q l) = ⊤ := ofBits_inf
  exact Prod.ext e rfl

include hP hx in
/-- The merge loop begins with every lane's slots and nothing taken. -/
theorem start_at (q : Fin 1024) (l : Fin 128) (u : Fin 9) :
    wat (start arg1 harg1 arg2 harg2 x0 x1 u) q l = Picks.cur (D q) (pk q) l.val 0 u.val := by
  rw [Picks.cur_zero]
  match u with
  | 0 => exact cols_at arg1 harg1 arg2 harg2 x0 x1 D hx 0 (by omega) _ q l
  | 1 => exact cols_at arg1 harg1 arg2 harg2 x0 x1 D hx 1 (by omega) _ q l
  | 2 => exact cols_at arg1 harg1 arg2 harg2 x0 x1 D hx 2 (by omega) _ q l
  | 3 => exact cols_at arg1 harg1 arg2 harg2 x0 x1 D hx 3 (by omega) _ q l
  | 4 => exact cols_at arg1 harg1 arg2 harg2 x0 x1 D hx 4 (by omega) _ q l
  | 5 => exact cols_at arg1 harg1 arg2 harg2 x0 x1 D hx 5 (by omega) _ q l
  | 6 => exact cols_at arg1 harg1 arg2 harg2 x0 x1 D hx 6 (by omega) _ q l
  | 7 => exact cols_at arg1 harg1 arg2 harg2 x0 x1 D hx 7 (by omega) _ q l
  | 8 =>
    rw [← Picks.cur_zero (π := pk q), (hP q).cur_last (by show 8 ≤ 8; omega)]
    exact blank_at q l

/-- One trip takes the `r`-th pick out of its lane and leaves the other lanes alone. -/
theorem next_at {d : ℕ → EReal} {π : ℕ → ℕ} (P : Picks d π) {r : ℕ} (hr : r < 64) (s : Fin 9 → WF Ideal × WI) (q : Fin 1024)
    (h : ∀ (l : Fin 128) (u : Fin 9), wat (s u) q l = Picks.cur d π l.val r u.val) (l : Fin 128) (u : Fin 9) :
    wat (nextS k2_pay26 k2_pay27 s u) q l = Picks.cur d π l.val (r + 1) u.val := by
  have h0 : ∀ l : Fin 128, wat ((s 0).1, (s 0).2) q l = Picks.cur d π l.val r 0 := fun l => h l 0
  match u with
  | 0 => exact round_slot P hr _ _ q h0 (s 0) (s 1) l 0 (h l 0) (h l 1)
  | 1 => exact round_slot P hr _ _ q h0 (s 1) (s 2) l 1 (h l 1) (h l 2)
  | 2 => exact round_slot P hr _ _ q h0 (s 2) (s 3) l 2 (h l 2) (h l 3)
  | 3 => exact round_slot P hr _ _ q h0 (s 3) (s 4) l 3 (h l 3) (h l 4)
  | 4 => exact round_slot P hr _ _ q h0 (s 4) (s 5) l 4 (h l 4) (h l 5)
  | 5 => exact round_slot P hr _ _ q h0 (s 5) (s 6) l 5 (h l 5) (h l 6)
  | 6 => exact round_slot P hr _ _ q h0 (s 6) (s 7) l 6 (h l 6) (h l 7)
  | 7 => exact round_slot P hr _ _ q h0 (s 7) (s 8) l 7 (h l 7) (h l 8)
  | 8 =>
    rw [P.cur_last (by show 8 ≤ 8; omega)]
    exact blank_at q l

/-- The block of values the merge kernel is shown to leave. -/
def wantVal (j : S64x1024.Idx) : EReal := Ideal.sqrt (max (D (j 1) (pk (j 1) (j 0).val)) 0)

/-- The block of row numbers the merge kernel is shown to leave. -/
def wantRow : Vec Ideal S64x1024 .i32 := fun j => BitVec.ofNat 32 (pk (j 1) (j 0).val)

/-- An index of a single row is a query. -/
theorem one_row (x : S1x1024.Idx) : ∃ q : Fin 1024, x = ix2 (0 : Fin 1) q := by
  refine ⟨x 1, funext fun a => Fin.ext ?_⟩
  match a with
  | ⟨0, _⟩ => have : (x 0).val < 1 := (x 0).isLt; show (x 0).val = 0; omega
  | ⟨1, _⟩ => rfl

/-- Trip `k` stores to row `k` of the result. -/
theorem row_piece0 (k : Fin k2_t1_loop.trips) (x : S1x1024.Idx) :
    ((Rect.unit (s := S64x1024) (k2_off1 k) S1x1024.size (k2_off1_inb k)).emb x 0).val = k.val := by
  have h0 : (x 0).val = 0 := by have : (x 0).val < 1 := (x 0).isLt; omega
  refine (ValueKit.rect_emb_unit_val _ _ _ _ _).trans ((congrArg (· + (x 0).val) (congrFun (k2_off1_eq k) 0)).trans ?_)
  show k.val + (x 0).val = k.val
  omega

/-- Its columns are the queries. -/
theorem row_piece1 (k : Fin k2_t1_loop.trips) (x : S1x1024.Idx) :
    ((Rect.unit (s := S64x1024) (k2_off1 k) S1x1024.size (k2_off1_inb k)).emb x 1).val = (x 1).val :=
  (ValueKit.rect_emb_unit_val _ _ _ _ _).trans ((congrArg (· + (x 1).val) (congrFun (k2_off1_eq k) 1)).trans (Nat.zero_add _))

/-- Trip `k` stores the distance of the `k`-th pick. -/
theorem stored_val (k : Fin k2_t1_loop.trips) (q : Fin 1024) (P : Picks (D q) (pk q)) (s : Fin 9 → WF Ideal × WI)
    (h : ∀ l : Fin 128, wat (s 0) q l = Picks.cur (D q) (pk q) l.val k.val 0) :
    (k2_pay24 (s 0).1 : FVec Ideal S1x1024 .f32) (ix2 (0 : Fin 1) q) =
      wantVal D pk ((Rect.unit (s := S64x1024) (k2_off1 k) S1x1024.size (k2_off1_inb k)).emb (ix2 (0 : Fin 1) q)) ∧
    (k2_pay25 (s 0).1 (s 0).2 : IVec S1x1024 32) (ix2 (0 : Fin 1) q) =
      wantRow pk ((Rect.unit (s := S64x1024) (k2_off1 k) S1x1024.size (k2_off1_inb k)).emb (ix2 (0 : Fin 1) q)) := by
  have hk : k.val < 64 := k.isLt
  have e0 := row_piece0 k (ix2 (0 : Fin 1) q)
  have e1 : (Rect.unit (s := S64x1024) (k2_off1 k) S1x1024.size (k2_off1_inb k)).emb (ix2 (0 : Fin 1) q) 1 = q :=
    Fin.ext (row_piece1 k (ix2 (0 : Fin 1) q))
  refine ⟨(stored_value _ q).trans ?_, (stored_row _ _ q).trans ?_⟩
  · rw [round_value P hk (s 0).1 (s 0).2 q h]
    unfold wantVal
    rw [e1, e0]
  · rw [round_row P hk (s 0).1 (s 0).2 q h]
    unfold wantRow
    rw [e1, e0]

include hP hx in
/-- Before round `K`: the slots, and everything stored so far. -/
theorem rounds_at (K : ℕ) (hK : K ≤ 64) : ∃ s : Fin 9 → WF Ideal × WI,
    (rounds c i arg1 harg1 arg2 harg2 arg3 harg3 arg4 harg4 x0 x1 K).1 = carOf s ∧
    (∀ (q : Fin 1024) (l : Fin 128) (u : Fin 9), wat (s u) q l = Picks.cur (D q) (pk q) l.val K u.val) ∧
    (∀ p ∈ (rounds c i arg1 harg1 arg2 harg2 arg3 harg3 arg4 harg4 x0 x1 K).2.1, ∀ x : p.1.shape.Idx,
      p.2 x = wantVal D pk (p.1.emb x)) ∧
    (∀ p ∈ (rounds c i arg1 harg1 arg2 harg2 arg3 harg3 arg4 harg4 x0 x1 K).2.2, ∀ x : p.1.shape.Idx,
      p.2 x = wantRow pk (p.1.emb x)) := by
  induction K with
  | zero =>
    refine ⟨start arg1 harg1 arg2 harg2 x0 x1, rfl, fun q l u => start_at arg1 harg1 arg2 harg2 x0 x1 D pk hP hx q l u, ?_, ?_⟩
    · intro p hp; exact absurd hp List.not_mem_nil
    · intro p hp; exact absurd hp List.not_mem_nil
  | succ K ih =>
    obtain ⟨s, h, hs, hv, hi⟩ := ih (by omega)
    have hk : K < k2_t1_loop.trips := by show K < 64; omega
    have step := rounds_succ c i arg1 harg1 arg2 harg2 arg3 harg3 arg4 harg4 x0 x1 K hk s h
    refine ⟨nextS k2_pay26 k2_pay27 s, congrArg Prod.fst step, fun q l u => next_at (hP q) (by omega) s q (hs q) l u, ?_, ?_⟩
    · intro p hp x
      have hp' := (congrArg (fun z => p ∈ z.2.1) step).mp hp
      rcases List.mem_cons.mp hp' with rfl | hp'
      · obtain ⟨q, rfl⟩ : ∃ q : Fin 1024, x = ix2 (0 : Fin 1) q := one_row x
        exact (stored_val D pk ⟨K, hk⟩ q (hP q) s (fun l => hs q l 0)).1
      · exact hv p hp' x
    · intro p hp x
      have hp' := (congrArg (fun z => p ∈ z.2.2) step).mp hp
      rcases List.mem_cons.mp hp' with rfl | hp'
      · obtain ⟨q, rfl⟩ : ∃ q : Fin 1024, x = ix2 (0 : Fin 1) q := one_row x
        have e := (stored_val D pk ⟨K, hk⟩ q (hP q) s (fun l => hs q l 0)).2
        dsimp only
        exact e
      · exact hi p hp' x

include hP hx in
/-- A step's block of the first result holds the picks' distances. -/
theorem out2_2 (j : S64x1024.Idx) :
    out2_A_2 c i arg1 harg1 arg2 harg2 arg3 harg3 arg4 harg4 x0 x1 j = wantVal D pk j := by
  obtain ⟨s, h, hs, hv, hi⟩ := rounds_at c i arg1 harg1 arg2 harg2 arg3 harg3 arg4 harg4 x0 x1 D pk hP hx 64 le_rfl
  have hc := cover2_A_2 c i arg1 harg1 arg2 harg2 arg3 harg3 arg4 harg4 x0 x1 j
  unfold out2_A_2
  rw [pieces2_2] at hc ⊢
  exact View.read_writes_apply_of_pieces _ _ (wantVal D pk) _ hv j hc

include hP hx in
/-- A step's block of the second result holds the picks' row numbers. -/
theorem out2_3 (j : S64x1024.Idx) :
    out2_A_3 c i arg1 harg1 arg2 harg2 arg3 harg3 arg4 harg4 x0 x1 j = wantRow pk j := by
  obtain ⟨s, h, hs, hv, hi⟩ := rounds_at c i arg1 harg1 arg2 harg2 arg3 harg3 arg4 harg4 x0 x1 D pk hP hx 64 le_rfl
  have hc := cover2_A_3 c i arg1 harg1 arg2 harg2 arg3 harg3 arg4 harg4 x0 x1 j
  unfold out2_A_3
  rw [pieces2_3] at hc ⊢
  exact View.read_writes_apply_of_pieces _ _ (wantRow pk) _ hi j hc

end values

end Cert.Knn
-- ==== Proof.MergeArray.lean ====
/-
  What the merge kernel leaves in its two arrays: column `q` holds query `q`'s sixty-four picks.
-/
module

public import proofs.«01_k».proof.Proof.MergeLoop

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

variable (V : (c : Dev nD) → (b : Ref sig .tc) → Buf (Elt Ideal) (c.tc.loc b)) (c : Dev nD)
  (D : Fin 4096 → ℕ → EReal) (pk : Fin 4096 → ℕ → ℕ) (hP : ∀ q, Picks (D q) (pk q))
  (hx : ∀ (q : Fin 4096) (m : Fin 1024),
    ((V c main_v2_0 : Vec Ideal S4096x1024 .f32) (ix2 q m), (V c main_v2_1 : Vec Ideal S4096x1024 .i32) (ix2 q m)) =
      Picks.ext (D q) (m.val % 128) (m.val / 128))

/-- The array of values the merge kernel is shown to leave. -/
def mergedVal : Vec Ideal S64x4096 .f32 := fun j => Ideal.sqrt (max (D (j 1) (pk (j 1) (j 0).val)) 0)

/-- The array of row numbers the merge kernel is shown to leave. -/
def mergedRow : Vec Ideal S64x4096 .i32 := fun j => BitVec.ofNat 32 (pk (j 1) (j 0).val)

/-- A step's block of the selected distances. -/
theorem e2_0 : ∀ t : Fin cfg2.N, win2_0.index t = ![(grid2.coords t 0).val, 0] :=
  (by decide +kernel : ∀ t : Fin grid2.N, _)
/-- A step's block of the selected row numbers. -/
theorem e2_1 : ∀ t : Fin cfg2.N, win2_1.index t = ![(grid2.coords t 0).val, 0] :=
  (by decide +kernel : ∀ t : Fin grid2.N, _)
/-- A step's block of the first result. -/
theorem e2_2 : ∀ t : Fin cfg2.N, win2_2.index t = ![0, (grid2.coords t 0).val] :=
  (by decide +kernel : ∀ t : Fin grid2.N, _)
/-- A step's block of the second result. -/
theorem e2_3 : ∀ t : Fin cfg2.N, win2_3.index t = ![0, (grid2.coords t 0).val] :=
  (by decide +kernel : ∀ t : Fin grid2.N, _)
/-- The merge has four steps. -/
theorem step_lt4 : ∀ t : Fin cfg2.N, (grid2.coords t 0).val < 4 :=
  (by decide +kernel : ∀ t : Fin grid2.N, _)

/-- Query `q` of the block at a grid point. -/
def qAt (t : Fin cfg2.N) (q : Fin 1024) : Fin 4096 :=
  ⟨(grid2.coords t 0).val * 1024 + q.val, by have := step_lt4 t; have := q.isLt; omega⟩

/-- A block of selected distances holds the array's own entries. -/
theorem iblk2_0 (t : Fin cfg2.N) (q m : Fin 1024) :
    (iblk2 V c 0 t : Vec Ideal S1024x1024 .f32) (ix2 q m) = (V c main_v2_0 : Vec Ideal S4096x1024 .f32) (ix2 (qAt t q) m) := by
  blk_simp [iblk2, e2_0]
  congr 1
  funext a
  apply Fin.ext
  match a with
  | ⟨0, _⟩ => blk_simp [e2_0]; rfl
  | ⟨1, _⟩ => blk_simp [e2_0]

/-- A block of selected row numbers holds the array's own entries. -/
theorem iblk2_1 (t : Fin cfg2.N) (q m : Fin 1024) :
    (iblk2 V c 1 t : Vec Ideal S1024x1024 .i32) (ix2 q m) = (V c main_v2_1 : Vec Ideal S4096x1024 .i32) (ix2 (qAt t q) m) := by
  blk_simp [iblk2, e2_1]
  congr 1
  funext a
  apply Fin.ext
  match a with
  | ⟨0, _⟩ => blk_simp [e2_1]; rfl
  | ⟨1, _⟩ => blk_simp [e2_1]

include hP hx

/-- If the selection's arrays hold every lane's slots and the picks are picks, the merge's first array ends with their distances. -/
theorem region2_val : (dat2 V c).arrAt 2 cfg2.N = mergedVal D pk := by
  refine (dat2 V c).arrAt_eq_of_covers 2 _ (by decide +kernel) fun t hf y => ?_
  blk_simp
  rw [after2_2]
  unfold outsAt2
  dsimp only
  rw [out2_2 (D := fun q => D (qAt t q)) (pk := fun q => pk (qAt t q)) (hP := fun q => hP _)
    (hx := fun q m => by rw [iblk2_0, iblk2_1]; exact hx _ _)]
  unfold wantVal mergedVal
  have h0 : (((win2_2.blk t).view.emb y) 0).val = (y 0).val := by
    blk_simp [e2_2]
  have h1 : (((win2_2.blk t).view.emb y) 1 : Fin 4096) = qAt t (y 1) := by
    apply Fin.ext; blk_simp [e2_2]; rfl
  dsimp only
  rw [h0, h1]

/-- And its second array with their row numbers. -/
theorem region2_row : (dat2 V c).arrAt 3 cfg2.N = mergedRow pk := by
  refine (dat2 V c).arrAt_eq_of_covers 3 _ (by decide +kernel) fun t hf y => ?_
  blk_simp
  rw [after2_3]
  unfold outsAt2
  dsimp only
  rw [out2_3 (D := fun q => D (qAt t q)) (pk := fun q => pk (qAt t q)) (hP := fun q => hP _)
    (hx := fun q m => by rw [iblk2_0, iblk2_1]; exact hx _ _)]
  unfold wantRow mergedRow
  have h0 : (((win2_3.blk t).view.emb y) 0).val = (y 0).val := by
    blk_simp [e2_3]
  have h1 : (((win2_3.blk t).view.emb y) 1 : Fin 4096) = qAt t (y 1) := by
    apply Fin.ext; blk_simp [e2_3]; rfl
  dsimp only
  rw [h0, h1]

end Cert.Knn
-- ==== Proof.Host.lean ====
/-
  The host's operations around the launches: the padding of the rows before, the transposes after, and what
  the whole program leaves in its two results.
-/
module

public import proofs.«01_k».proof.Proof.Dist
public import proofs.«01_k».proof.Proof.MergeArray
public import Idealize.ShloMosaic.Lib.Pointwise

@[expose] public section
set_option maxRecDepth 100000
set_option maxHeartbeats 1000000

noncomputable section

namespace Cert.Knn

open Cert.KernelIdeal Cert.KernelIdeal.Gen
open Idealize.ShloMosaic Idealize.ShloMosaic.TcCoe Idealize.ShloMosaic.Tactic

/-- Query `q`'s distances by row number: the squared distance to row `n`, and `⊤` past the last row. -/
def dist (Q : (⟨2, ![4096, 128]⟩ : Shape).Idx → EReal) (R : (⟨2, ![100000, 128]⟩ : Shape).Idx → EReal) (q : Fin 4096) (n : ℕ) : EReal :=
  if h : n < 100000 then sq Q R q ⟨n, h⟩ else ⊤

variable (m : (ℓ : Loc nD τ sig) → Buf (Elt Ideal) ℓ) (ρ : Dev nD → PrngReg) (c : Dev nD)

omit m ρ c in
/-- A row of a padded array that is one of the array's own. -/
theorem pad_row (x : Vec Ideal S100000x128 .f32) (v : Vec Ideal S_ .f32) (n : Fin 100352) (k : Fin 128) (h : n.val < 100000) :
    pad S100352x128 ![0, 0] ![352, 0] ![0, 0] x v pads_S100000x128_S100352x128_03520_000 h_S_ (ix2 n k) = x (ix2 ⟨n.val, h⟩ k) := by
  pointwise
  simp [h]

/-- The padded rows: the first hundred thousand are the argument's. -/
theorem padded (n : Fin 100352) (k : Fin 128) (h : n.val < 100000) :
    (V2 m ρ c main_v0 : Vec Ideal S100352x128 .f32) (ix2 n k) =
      (m ((c.tc : Thread nD τ).loc main_arg0) : Vec Ideal S100000x128 .f32) (ix2 ⟨n.val, h⟩ k) := by
  have e : ∀ W : Valuation τ sig (Elt Ideal), ∃ v : Vec Ideal S_ .f32, (StableHlo.after hostOps0_1 W (Proc.devRef .tc main_v0) : Vec Ideal S100352x128 .f32) =
      pad S100352x128 ![0, 0] ![352, 0] ![0, 0] (W (Proc.devRef .tc main_arg0) : Vec Ideal S100000x128 .f32)
        v pads_S100000x128_S100352x128_03520_000 h_S_ := fun W => by
    refine ⟨(StableHlo.after hostOps0_1 W (Proc.devRef .tc main_call0_v0) : Vec Ideal S_ .f32), ?_⟩
    after_results
    try rfl
  obtain ⟨v, e⟩ := e (W1 m ρ c)
  refine (congrFun e _).trans ((pad_row _ v n k h).trans ?_)
  exact congrFun (W1_args m ρ c main_arg0 (by decide)) _

/-- The first result is the transpose of the merge kernel's first array. -/
theorem res_val : W6 m ρ c (Proc.devRef .tc main_v4) =
    (transpose S4096x64 [1, 0] (W5 m ρ c (Proc.devRef .tc main_v3_0) : Vec Ideal S64x4096 .f32) transposes_S64x4096_S4096x64_1_0 : Vec Ideal S4096x64 .f32) := by
  after_results

/-- The second result is the transpose of the merge kernel's second array. -/
theorem res_row : W6 m ρ c (Proc.devRef .tc main_v5) =
    (transpose S4096x64 [1, 0] (W5 m ρ c (Proc.devRef .tc main_v3_1) : Vec Ideal S64x4096 .i32) transposes_S64x4096_S4096x64_1_0 : Vec Ideal S4096x64 .i32) := by
  after_results

/-- Query `q`'s row of the distance array. -/
theorem row_dist (q : Fin 4096) :
    rowFn (n := 4096) (distArr (V2 m ρ c main_arg1) (V2 m ρ c main_v0)) q =
      dist (m ((c.tc : Thread nD τ).loc main_arg1)) (m ((c.tc : Thread nD τ).loc main_arg0)) q := by
  have hq : V2 m ρ c main_arg1 = m ((c.tc : Thread nD τ).loc main_arg1) := W2_args m ρ c _ (by decide)
  rw [hq]
  funext n
  unfold rowFn dist
  by_cases h : n < 100000
  · rw [dif_pos h, dif_pos (by omega)]
    unfold distArr
    rw [if_pos (show ((ix2 q (⟨n, by omega⟩ : Fin 100352)) 1).val < 100000 from h)]
    exact sq_congr _ _ _ _ _ _ _ _ (fun k => rfl) fun k => padded m ρ c _ k h
  · rw [dif_neg h]
    split
    · unfold distArr
      rw [if_neg (show ¬ ((ix2 q (⟨n, by omega⟩ : Fin 100352)) 1).val < 100000 from h)]
    · rfl

variable (pk : Fin 4096 → ℕ → ℕ)
  (hP : ∀ q, Picks (dist (m ((c.tc : Thread nD τ).loc main_arg1)) (m ((c.tc : Thread nD τ).loc main_arg0)) q) (pk q))

/-- What the two selection arrays hold when the merge kernel reads them. -/
theorem entry2 (q : Fin 4096) (j : Fin 1024) :
    ((V4 m ρ c main_v2_0 : Vec Ideal S4096x1024 .f32) (ix2 q j), (V4 m ρ c main_v2_1 : Vec Ideal S4096x1024 .i32) (ix2 q j)) =
      Picks.ext (dist (m ((c.tc : Thread nD τ).loc main_arg1)) (m ((c.tc : Thread nD τ).loc main_arg0)) q) (j.val % 128) (j.val / 128) := by
  have hd : V3 m ρ c main_v1 = distArr (V2 m ρ c main_arg1) (V2 m ρ c main_v0) :=
    (W3_arr m ρ c 2).trans (region0_dist (V2 m ρ) c)
  have h0 : V4 m ρ c main_v2_0 = selVal (V3 m ρ c main_v1) := (W4_arr m ρ c 1).trans (region1_val (V3 m ρ) c)
  have h1 : V4 m ρ c main_v2_1 = selIdx (V3 m ρ c main_v1) := (W4_arr m ρ c 2).trans (region1_idx (V3 m ρ) c)
  rw [h0, h1, hd, ← row_dist m ρ c q]
  rfl

include hP in
/-- After the last call the first array holds the picks' distances. -/
theorem merged_val : W5 m ρ c (Proc.devRef .tc main_v3_0) =
    mergedVal (fun q => dist (m ((c.tc : Thread nD τ).loc main_arg1)) (m ((c.tc : Thread nD τ).loc main_arg0)) q) pk :=
  (W5_arr m ρ c 2).trans (region2_val (V4 m ρ) c _ pk hP (entry2 m ρ c))

include hP in
/-- After the last call the second array holds the picks' row numbers. -/
theorem merged_row : W5 m ρ c (Proc.devRef .tc main_v3_1) = mergedRow pk :=
  (W5_arr m ρ c 3).trans (region2_row (V4 m ρ) c _ pk hP (entry2 m ρ c))

include hP in
/-- The program's first result at query `q`, rank `r`. -/
theorem result_val (j : S4096x64.Idx) : (W6 m ρ c (Proc.devRef .tc main_v4) : Vec Ideal S4096x64 .f32) j =
    Ideal.sqrt (max (dist (m ((c.tc : Thread nD τ).loc main_arg1)) (m ((c.tc : Thread nD τ).loc main_arg0)) (j 0) (pk (j 0) (j 1).val)) 0) := by
  rw [res_val, merged_val m ρ c pk hP]
  pointwise
  rfl

include hP in
/-- The program's second result at query `q`, rank `r`. -/
theorem result_row (j : S4096x64.Idx) : (W6 m ρ c (Proc.devRef .tc main_v5) : Vec Ideal S4096x64 .i32) j =
    BitVec.ofNat 32 (pk (j 0) (j 1).val) := by
  rw [res_row, merged_row m ρ c pk hP]
  pointwise
  rfl

end Cert.Knn
-- ==== Proof.Choose.lean ====
/-
  The precondition, read: the rows a stable sort of the distances puts first are picks in the sense of
  `Picks`, so the kernel keeps every one of them.
-/
module

public import proofs.«01_k».proof.Proof.Pre
public import proofs.«01_k».proof.Proof.TopK
public import proofs.«01_k».proof.Proof.Host

@[expose] public section
set_option maxRecDepth 100000
set_option maxHeartbeats 1000000

noncomputable section

namespace Cert.Knn

open Idealize.ShloMosaic Idealize.ShloMosaic.TcCoe Idealize.ShloMosaic.Tactic

variable (x0 : (⟨2, ![100000, 128]⟩ : Shape).Idx → EReal) (x1 : (⟨2, ![4096, 128]⟩ : Shape).Idx → EReal)

/-- The array the reference sorts: the negated distances. -/
def negRoot : FVec Ideal Wide .f32 := fun i => -root (sq x1 x0 (i 0) (i 1))

/-- The distances. -/
def rootArr : FVec Ideal Wide .f32 := fun i => root (sq x1 x0 (i 0) (i 1))

/-- At a row of the array the distance by row number is the squared distance. -/
theorem dist_of_lt (q : Fin 4096) (k : Fin 100000) : dist x1 x0 q k.val = sq x1 x0 q k := by
  unfold dist; rw [dif_pos k.isLt]

section real
variable (h0 : ∀ i, ∃ r : ℝ, x0 i = r)
include h0

/-- The reference's array decreases along a query exactly where the squared distance increases. -/
theorem negRoot_lt (q : Fin 4096) (k k' : Fin 100000) :
    negRoot x0 x1 (ix2 q k') < negRoot x0 x1 (ix2 q k) ↔ dist x1 x0 q k.val < dist x1 x0 q k'.val := by
  rw [dist_of_lt, dist_of_lt]
  exact neg_root_sq x1 x0 h0 q k k'

/-- The values the sort leaves first. -/
theorem chosen_val (hs : Wide.Slices (fun _ => 0) Narrow) (q : Fin 4096) (r : Fin 64) :
    (Host.topK Narrow 1 (FloatOps.cmpfTotal (F := Ideal) (φ := .f32) .gt) (negRoot x0 x1) hs).1 (ix2 q r) =
      -root (dist x1 x0 q (pick (dist x1 x0 q) r.val)) := by
  rw [top_val _ (fun q k => dist x1 x0 q k.val) (negRoot_lt x0 x1 h0) hs q r, pick_eq _ _ (by omega), dist_of_lt]
  rfl

/-- The row numbers the sort leaves first. -/
theorem chosen_row (hs : Wide.Slices (fun _ => 0) Narrow) (q : Fin 4096) (r : Fin 64) :
    (Host.topK Narrow 1 (FloatOps.cmpfTotal (F := Ideal) (φ := .f32) .gt) (negRoot x0 x1) hs).2 (ix2 q r) =
      BitVec.ofNat 32 (pick (dist x1 x0 q) r.val) := by
  rw [top_row _ (fun q k => dist x1 x0 q k.val) (negRoot_lt x0 x1 h0) hs q r, pick_eq _ _ (by omega)]

end real

/-- Counting over the naturals below 64 is counting over `Fin 64`. -/
theorem card_fin (p : ℕ → Prop) [DecidablePred p] : ((Finset.range 64).filter p).card ≤ (Finset.univ.filter fun x : Fin 64 => p x.val).card := by
  refine Finset.card_le_card_of_surjOn (fun x : Fin 64 => x.val) fun n hn => ?_
  have hn : n ∈ (Finset.range 64).filter p := hn
  rw [Finset.mem_filter, Finset.mem_range] at hn
  exact ⟨⟨n, hn.1⟩, by simpa using hn.2, rfl⟩

/-- A bound at every pick's own class is a bound at every class. -/
theorem class_le (π : ℕ → ℕ) (m b : ℕ) (h : ∀ a : Fin 64, (Finset.univ.filter fun x : Fin 64 => π a.val % m = π x.val % m).card ≤ b) (l : ℕ) :
    ((Finset.range 64).filter fun s => π s % m = l).card ≤ b := by
  refine (card_fin fun s => π s % m = l).trans ?_
  by_cases k : ∃ a : Fin 64, π a.val % m = l
  · obtain ⟨a, rfl⟩ := k
    refine le_trans (Finset.card_le_card fun x hx => ?_) (h a)
    simp only [Finset.mem_filter, Finset.mem_univ, true_and] at hx ⊢
    exact hx.symm
  · rw [Finset.filter_false_of_mem fun x _ e => k ⟨x, e⟩]
    simp

/-- A row nearer than the last pick is a pick. -/
theorem nearer (d : ℕ → EReal) (n : ℕ) (hn : n < 100000) (h : d n < d (pick d 63)) : ∃ r < 64, n = pick d r := by
  rcases pick_rest d n hn with e | e
  · exact e
  · exfalso
    unfold rk at e
    rw [Prod.Lex.toLex_lt_toLex] at e
    rcases e with e | e
    · exact lt_asymm e h
    · exact absurd e.1 (ne_of_gt h)

section
variable [Cert.Pre_spread.Facts] (D : FVec Ideal Wide .f32) (V : FVec Ideal Narrow .f32) (I : IVec Narrow 32)
  (d : Fin 4096 → ℕ → EReal)
  (h2 : (Cert.Pre_spread.fn_part1 (F := Ideal) x0 D V I).2.1 = (fun _ => 1#1))
  (h3 : (Cert.Pre_spread.fn_part1 (F := Ideal) x0 D V I).2.2.1 = (fun _ => 1#1))
  (h4 : (Cert.Pre_spread.fn_part1 (F := Ideal) x0 D V I).2.2.2.1 = (fun _ => 1#1))
  (h5 : (Cert.Pre_spread.fn_part1 (F := Ideal) x0 D V I).2.2.2.2 = (fun _ => 1#1))
  (hV : ∀ (q : Fin 4096) (a : Fin 64), V (ix2 q a) = -root (d q (pick (d q) a.val)))
  (hI : ∀ (q : Fin 4096) (a : Fin 64), I (ix2 q a) = BitVec.ofNat 32 (pick (d q) a.val))
  (hD : ∀ (q : Fin 4096) (k : Fin 100000), D (ix2 q k) = root (d q k.val))
  (hpad : ∀ (q : Fin 4096) (n : ℕ), 100000 ≤ n → d q n = ⊤)
include h2 h3 h4 h5 hV hI hD hpad

/-- No two rows of a bin tie at the last pick's distance. -/
theorem edge_bin (q : Fin 4096) (n n' : ℕ) (hn : n < 100000) (hn' : n' < 100000) (hm : n % 256 = n' % 256)
    (e : d q n = d q (pick (d q) 63)) (e' : d q n' = d q (pick (d q) 63)) : n = n' := by
  have h53 : V (ix2 q 63) = -root (d q (pick (d q) 63)) := hV q 63
  refine read5 x0 D V I h5 q n n' hn hn' hm ?_ ?_
  · rw [hD, h53, ← e]
  · rw [hD, h53, ← e']

/-- No two picks of a bin tie. -/
theorem pick_bin (q : Fin 4096) (r s : ℕ) (hr : r < 64) (hs : s < 64) (hm : pick (d q) r % 256 = pick (d q) s % 256)
    (e : d q (pick (d q) r) = d q (pick (d q) s)) : pick (d q) r = pick (d q) s := by
  have hp : ∀ (q : Fin 4096) (a : Fin 64), pick (d q) a.val < 100000 := fun q a => pick_lt _ _
  refine read4 x0 D V I (fun q a => pick (d q) a.val) hp hI h4 q ⟨r, hr⟩ ⟨s, hs⟩ hm ?_
  rw [hV, hV]
  dsimp only
  rw [e]

/-- A pick's distance is not `⊤`: otherwise every row but the picks is at `⊤`, two of them in bin 0. -/
theorem pick_fin (q : Fin 4096) (r : ℕ) (hr : r < 64) : d q (pick (d q) r) < ⊤ := by
  rw [lt_top_iff_ne_top]
  intro ht
  have far : ∀ n < 100000, (¬ ∃ s < 64, n = pick (d q) s) → d q n = ⊤ := fun n hn k => by
    rcases pick_rest (d q) n hn with e | e
    · exact absurd e k
    · have hle : rk (d q) (pick (d q) r) ≤ rk (d q) (pick (d q) 63) := by
        rcases Nat.lt_or_ge r 63 with h | h
        · exact (pick_inc (d q) r 63 hr (by omega) h).le
        · rw [show r = 63 by omega]
      have h := hle.trans e.le
      unfold rk at h
      rw [Prod.Lex.toLex_le_toLex] at h
      rcases h with h | h
      · exact absurd (ht ▸ h) not_top_lt
      · exact h.1.symm.trans ht
  have last : d q (pick (d q) 63) = ⊤ := by
    rcases Nat.lt_or_ge r 63 with h | h
    · have k := (pick_inc (d q) r 63 hr (by omega) h).le
      unfold rk at k
      rw [Prod.Lex.toLex_le_toLex] at k
      rcases k with k | k
      · exact absurd (ht ▸ k) not_top_lt
      · exact k.1.symm.trans ht
    · rw [show 63 = r by omega]; exact ht
  have two : 1 < (((Finset.range 66).image fun j => 256 * j) \ (Finset.range 64).image (pick (d q))).card := by
    have h1 : ((Finset.range 66).image fun j => 256 * j).card = 66 := by
      rw [Finset.card_image_of_injective _ fun a b h => by have h : 256 * a = 256 * b := h; omega, Finset.card_range]
    have h2 : ((Finset.range 64).image (pick (d q))).card ≤ 64 := Finset.card_image_le.trans (Finset.card_range 64).le
    have h3 := Finset.le_card_sdiff ((Finset.range 64).image (pick (d q))) ((Finset.range 66).image fun j => 256 * j)
    omega
  obtain ⟨a, ha, b, hb, hab⟩ := Finset.one_lt_card.mp two
  have spot : ∀ n ∈ (((Finset.range 66).image fun j => 256 * j) \ (Finset.range 64).image (pick (d q))), n < 100000 ∧ n % 256 = 0 ∧ d q n = ⊤ := by
    intro n hn
    obtain ⟨h1, h2⟩ := Finset.mem_sdiff.mp hn
    obtain ⟨j, hj, e⟩ := Finset.mem_image.mp h1
    have hj := Finset.mem_range.mp hj
    have e : 256 * j = n := e
    refine ⟨by omega, by omega, far n (by omega) fun ⟨s, hs, k⟩ => h2 (Finset.mem_image.mpr ⟨s, Finset.mem_range.mpr hs, k.symm⟩)⟩
  obtain ⟨a1, a2, a3⟩ := spot a ha
  obtain ⟨b1, b2, b3⟩ := spot b hb
  exact hab (edge_bin x0 D V I d h2 h3 h4 h5 hV hI hD hpad q a b a1 b1 (a2.trans b2.symm) (a3.trans last.symm) (b3.trans last.symm))

/-- The conjuncts of the precondition say that the sorted rows are picks. -/
theorem picks_of (q : Fin 4096) : Picks (d q) (pick (d q)) := by
  have hp : ∀ (q : Fin 4096) (a : Fin 64), pick (d q) a.val < 100000 := fun q a => pick_lt _ _
  refine ⟨fun r _ => pick_lt _ _, fun r hr s hs k => pick_inc _ _ _ hr hs k, fun n hn => pick_rest _ n hn, pick_fin x0 D V I d h2 h3 h4 h5 hV hI hD hpad q, hpad q,
    fun n hn n' hn' hm he hle => ?_, class_le _ _ _ fun a => ?_, class_le _ _ _ fun a => ?_⟩
  · rcases lt_or_eq_of_le hle with hlt | heq
    · obtain ⟨r, hr, e⟩ := nearer (d q) n hn hlt
      obtain ⟨s, hs, e'⟩ := nearer (d q) n' hn' (he ▸ hlt)
      rw [e, e']
      rw [e, e'] at hm he
      exact pick_bin x0 D V I d h2 h3 h4 h5 hV hI hD hpad q r s hr hs hm he
    · exact edge_bin x0 D V I d h2 h3 h4 h5 hV hI hD hpad q n n' hn hn' hm heq (he ▸ heq)
  · exact read2 x0 D V I (fun q a => pick (d q) a.val) hp hI h2 q a
  · exact read3 x0 D V I (fun q a => pick (d q) a.val) hp hI h3 q a

end

/-- The array of distances the predicate computes. -/
theorem pre_dist [Cert.Pre_spread.Facts] :
    ∃ E : FVec Ideal Wide .f32, Cert.Pre_spread.fn (F := Ideal) x0 x1 =
      Cert.Pre_spread.fn_part1 (F := Ideal) x0 E
        (Host.topK Narrow 1 (FloatOps.cmpfTotal (F := Ideal) (φ := .f32) .gt) (Host.negf E) Cert.Pre_spread.Facts.sliceFits_S4096x100000_S4096x64).1
        (Host.topK Narrow 1 (FloatOps.cmpfTotal (F := Ideal) (φ := .f32) .gt) (Host.negf E) Cert.Pre_spread.Facts.sliceFits_S4096x100000_S4096x64).2
      ∧ ∀ i, E i = rootArr x0 x1 i := by
  refine ⟨_, rfl, fun i => ?_⟩
  unfold rootArr root sq
  pointwise

/-- What the predicate computes on the way: the distances, the sixty-four values and their row numbers. -/
theorem pre_open [Cert.Pre_spread.Facts] :
    Cert.Pre_spread.fn (F := Ideal) x0 x1 =
      Cert.Pre_spread.fn_part1 (F := Ideal) x0 (rootArr x0 x1)
        (Host.topK Narrow 1 (FloatOps.cmpfTotal (F := Ideal) (φ := .f32) .gt) (negRoot x0 x1) Cert.Pre_spread.Facts.sliceFits_S4096x100000_S4096x64).1
        (Host.topK Narrow 1 (FloatOps.cmpfTotal (F := Ideal) (φ := .f32) .gt) (negRoot x0 x1) Cert.Pre_spread.Facts.sliceFits_S4096x100000_S4096x64).2 := by
  obtain ⟨E, e, hE⟩ := pre_dist x0 x1
  obtain rfl : E = rootArr x0 x1 := funext hE
  exact e

section
variable [Cert.Pre_spread.Facts]
  (h : (Cert.Pre_spread.fn (F := Ideal) x0 x1).1 = (fun _ => 1#1)
    ∧ (Cert.Pre_spread.fn (F := Ideal) x0 x1).2.1 = (fun _ => 1#1)
    ∧ (Cert.Pre_spread.fn (F := Ideal) x0 x1).2.2.1 = (fun _ => 1#1)
    ∧ (Cert.Pre_spread.fn (F := Ideal) x0 x1).2.2.2.1 = (fun _ => 1#1)
    ∧ (Cert.Pre_spread.fn (F := Ideal) x0 x1).2.2.2.2 = (fun _ => 1#1))
include h

/-- Under the precondition the rows' entries are real. -/
theorem rows_real : ∀ i, ∃ r : ℝ, x0 i = r := by
  have h := h.1
  rw [pre_open] at h
  exact read1 _ _ _ _ h

/-- Under the precondition the stable sort's first sixty-four rows are picks. -/
theorem picks (q : Fin 4096) : Picks (dist x1 x0 q) (pick (dist x1 x0 q)) := by
  have h0 := rows_real x0 x1 h
  rw [pre_open] at h
  refine picks_of x0 (rootArr x0 x1) _ _ (fun q => dist x1 x0 q) h.2.1 h.2.2.1 h.2.2.2.1 h.2.2.2.2
    (chosen_val x0 x1 h0 _) (chosen_row x0 x1 h0 _) (fun q k => ?_) (fun q n hn => ?_) q
  · rw [dist_of_lt]; rfl
  · unfold dist; rw [dif_neg (by omega)]

end

end Cert.Knn
-- ==== Proof.Reference.lean ====
/-
  The reference's two results, read: under the precondition they are the distances and the row numbers of the rows its
  sort picks. Its frame, with every semaphore counter at zero.
-/
module

public import proofs.«01_k».proof.Proof.Choose
public import proofs.«01_k».proof.Proof.Gen.ReferenceIdeal.Run
public import proofs.«01_k».proof.Proof.Gen.ReferenceIdeal.Read

@[expose] public section
set_option maxRecDepth 100000
set_option maxHeartbeats 1000000

noncomputable section

namespace Cert.Knn

open Idealize.ShloMosaic Idealize.ShloMosaic.TcCoe Idealize.ShloMosaic.Tactic
open Cert.ReferenceIdeal Cert.ReferenceIdeal.Gen Cert.ReferenceIdeal.Read

/-- The reference ends with its arguments unchanged and every semaphore counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).2.2.1, (h c).2.2.2⟩, sem_eq_zero_of_no_sems (by decide) r.2⟩)
    (Cert.ReferenceIdeal.Value.run m ρ)

variable (x0 : (⟨2, ![100000, 128]⟩ : Shape).Idx → EReal) (x1 : (⟨2, ![4096, 128]⟩ : Shape).Idx → EReal)

/-- The array the reference sorts is the negated distances. -/
theorem sorted_array : val_main_v17 (F := Ideal) x0 x1 = negRoot x0 x1 := by
  have : ∃ E : FVec Ideal Wide .f32, val_main_v17 (F := Ideal) x0 x1 = E ∧ ∀ i, E i = negRoot x0 x1 i := by
    refine ⟨_, rfl, fun i => ?_⟩
    unfold negRoot root sq val_main_v17 val_main_v16 val_main_v15 val_main_v14 val_main_cst_2 val_main_v13 val_main_v12 val_main_v11
      val_main_cst_1 val_main_v10 val_main_v9 val_main_v8 val_main_v7 val_main_v6 val_main_v5 val_main_v4 val_main_cst_0 val_main_v3
      val_main_v2 val_main_v1 val_main_cst val_main_v0
    pointwise
  obtain ⟨E, e, h⟩ := this
  exact e.trans (funext h)

variable (h0 : ∀ i, ∃ r : ℝ, x0 i = r)
include h0

/-- The reference's distances. -/
theorem reference_val (j : (⟨2, ![4096, 64]⟩ : Shape).Idx) :
    (val_main_v18 (F := Ideal) x0 x1 : FVec Ideal Narrow .f32) j = root (dist x1 x0 (j 0) (pick (dist x1 x0 (j 0)) (j 1).val)) := by
  rw [val_main_v18_apply]
  unfold val_main_values
  rw [sorted_array, eq_ix2 j]
  refine (congrArg (fun t : EReal => -t) (chosen_val x0 x1 h0 _ (j 0) (j 1))).trans ?_
  exact neg_neg _

/-- The reference's row numbers. -/
theorem reference_row (j : (⟨2, ![4096, 64]⟩ : Shape).Idx) :
    (val_main_indices (F := Ideal) x0 x1 : IVec Narrow 32) j = BitVec.ofNat 32 (pick (dist x1 x0 (j 0)) (j 1).val) := by
  unfold val_main_indices
  rw [sorted_array, eq_ix2 j]
  exact chosen_row x0 x1 h0 _ (j 0) (j 1)

end Cert.Knn

end
-- ==== Proof.PreFacts.lean ====
/-
  The side conditions the precondition's array operations state (shapes that fit one another), each decided.
-/
module

public import proofs.«01_k».proof.Defs

@[expose] public section
set_option maxRecDepth 100000

noncomputable section

namespace Cert.Knn

/-- Every shape relation the precondition states holds. -/
theorem preFacts : Cert.Pre_spread.Facts where
  reducesTo_S4096x128_S4096_d1 := by decide
  h_S_ := by decide
  bcast_S4096_S4096x1_0 := by decide
  reducesTo_S100000x128_S100000_d1 := by decide
  bcast_S100000_S1x100000_1 := by decide
  bcast_S4096x1_S4096x100000_0_1 := by decide
  bcast_S1x100000_S4096x100000_0_1 := by decide
  transposes_S100000x128_S128x100000_1_0 := by decide
  bcast_S_S4096x100000 := by decide
  sliceFits_S4096x100000_S4096x64 := by decide
  bcast_S_S4096x64 := by decide
  bcast_S4096x64_S4096x64x1_0_1 := by decide
  bcast_S4096x64_S4096x1x64_0_2 := by decide
  bcast_S4096x64x1_S4096x64x64_0_1_2 := by decide
  bcast_S4096x1x64_S4096x64x64_0_1_2 := by decide
  slices_S4096x64_S4096x1_0_63 := by decide
  natLt_1_32 := by decide
  pads_S4096x100000_S4096x100096_000_0960 := by decide
  shapeCasts_S4096x100096_S4096x391x256 := by decide
  bcast_S_S100000x128 := by decide
  reducesTo_S4096x64x64_S4096x64_d2 := by decide
  reducesTo_S4096x391x256_S4096x256_d1 := by decide
  bcast_S_S4096x256 := by decide
  dot_S4096x128_S128x100000_S4096x100000_1_0_0_1_n_n_wf := by decide

end Cert.Knn

end
-- ==== Proof.Agree.lean ====
/-
  The two programs together: from memories agreeing on the arguments, under the precondition, both end with the same
  distances and the same row numbers.
-/
module

public import proofs.«01_k».proof.Proof.KernelRun
public import proofs.«01_k».proof.Proof.Reference
public import proofs.«01_k».proof.Proof.PreFacts

@[expose] public section
set_option maxRecDepth 100000
set_option maxHeartbeats 1000000

noncomputable section

namespace Cert.Knn

open Idealize.ShloMosaic Idealize.ShloMosaic.TcCoe

/-- Under the precondition the kernel's results and the reference's, from the same arguments, are equal. -/
theorem agree : Cert.algebraic_KernelIdeal_ReferenceIdeal_pre_spread (hKernelIdeal := Cert.KernelIdeal.Gen.facts)
    (hReferenceIdeal := Cert.ReferenceIdeal.Gen.facts) (hPre_spread := preFacts) := by
  intro m g m' g' hpre hagree
  letI : Cert.Pre_spread.Facts := preFacts
  have hP : ∀ c : Dev Cert.KernelIdeal.nD, ∀ q, Picks (dist (m (c.tc.loc Cert.KernelIdeal.main_arg1)) (m (c.tc.loc Cert.KernelIdeal.main_arg0)) q)
      (pick (dist (m (c.tc.loc Cert.KernelIdeal.main_arg1)) (m (c.tc.loc Cert.KernelIdeal.main_arg0)) q)) :=
    fun c q => picks _ _ (hpre c) q
  refine ⟨_, _, kernel_run m g, (θ_run Cert.ReferenceIdeal.defs _ _).mono (fun r h c => ⟨?_, ?_, (h c).2.2⟩)
    (Cert.ReferenceIdeal.Value.run m' g')⟩
  · refine (h c).1.trans ((Cert.ReferenceIdeal.Read.val_main_v18_eq (F := Ideal) _ _).trans ?_)
    rw [(hagree c).1, (hagree c).2]
    funext j
    exact (reference_val _ _ (rows_real _ _ (hpre c)) j).trans (result_val m g c _ (hP c) j).symm
  · refine (h c).2.1.trans ((Cert.ReferenceIdeal.Read.val_main_indices_eq (F := Ideal) _ _).trans ?_)
    rw [(hagree c).1, (hagree c).2]
    funext j
    exact (reference_row _ _ (rows_real _ _ (hpre c)) j).trans (result_row m g c _ (hP c) j).symm

end Cert.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Everything claimed: each program runs, leaves its arguments unchanged and every semaphore counter at zero, with the
    precondition or without; the idealization is the kernel's own text; and the two results agree under `spread`. -/
theorem claim : Cert.Claim :=
  ⟨Cert.Kernel.Gen.facts, Cert.KernelIdeal.Gen.facts, Cert.ReferenceIdeal.Gen.facts, Cert.Knn.preFacts,
    fun m ρ _ => Cert.Kernel.Gen.frame m ρ, fun m ρ _ => Cert.KernelIdeal.Gen.frame m ρ,
    fun m ρ _ => Cert.KernelIdeal.Gen.frame m ρ, fun m ρ _ => Cert.Knn.reference_frame m ρ,
    fun m ρ _ => Cert.Knn.reference_frame m ρ, trivial, Cert.Knn.agree⟩

end Cert.Proof

end
